-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x1024x1024 : Shape := ⟨3, ![4, 1024, 1024]⟩
abbrev S4x2048x1024 : Shape := ⟨3, ![4, 2048, 1024]⟩
abbrev S4x1024 : Shape := ⟨2, ![4, 1024]⟩
abbrev S1024x1024 : Shape := ⟨2, ![1024, 1024]⟩
abbrev S64 : Shape := ⟨1, ![64]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x1024 .f32) (main_arg1 : IVec S4x1024x1024 32) (main_arg2 : FVec F S4x1024x1024 .f32) (main_arg3 : FVec F S4x2048x1024 .f32) (main_arg4 : IVec S4x1024 32) (main_arg5 : FVec F S1024x1024 .f32) (main_arg6 : FVec F S64 .f32) (main_arg7 : FVec F S1024x1024 .f32) (main_arg8 : FVec F S1024 .f32) : IVec S_ 1 :=
  let main_c : IVec S_ 32 := constantI S_ 32 0#32
  let main_v0 : IVec S4x1024x1024 32 := broadcastInDim S4x1024x1024 ![] bcast_S_S4x1024x1024 main_c
  let main_v1 : IVec S4x1024x1024 1 := cmpi .sge main_arg1 main_v0
  let main_c_0 : IVec S_ 1 := constantI S_ 1 1#1
  let main_v2 : IVec S_ 1 := (fun x v => Host.reduce IntOp.andi x v reducesTo_S4x1024x1024_S_d0_1_2 h_S_) main_v1 main_c_0
  let main_c_1 : IVec S_ 32 := constantI S_ 32 64#32
  let main_v3 : IVec S4x1024x1024 32 := broadcastInDim S4x1024x1024 ![] bcast_S_S4x1024x1024 main_c_1
  let main_v4 : IVec S4x1024x1024 1 := cmpi .slt main_arg1 main_v3
  let main_c_2 : IVec S_ 1 := constantI S_ 1 1#1
  let main_v5 : IVec S_ 1 := (fun x v => Host.reduce IntOp.andi x v reducesTo_S4x1024x1024_S_d0_1_2 h_S_) main_v4 main_c_2
  let main_v6 : IVec S_ 1 := andi main_v2 main_v5
  let main_c_3 : IVec S_ 32 := constantI S_ 32 0#32
  let main_v7 : IVec S4x1024 32 := broadcastInDim S4x1024 ![] bcast_S_S4x1024 main_c_3
  let main_v8 : IVec S4x1024 1 := cmpi .sge main_arg4 main_v7
  let main_c_4 : IVec S_ 1 := constantI S_ 1 1#1
  let main_v9 : IVec S_ 1 := (fun x v => Host.reduce IntOp.andi x v reducesTo_S4x1024_S_d0_1 h_S_) main_v8 main_c_4
  let main_v10 : IVec S_ 1 := andi main_v6 main_v9
  let main_c_5 : IVec S_ 32 := constantI S_ 32 2048#32
  let main_v11 : IVec S4x1024 32 := broadcastInDim S4x1024 ![] bcast_S_S4x1024 main_c_5
  let main_v12 : IVec S4x1024 1 := cmpi .slt main_arg4 main_v11
  let main_c_6 : IVec S_ 1 := constantI S_ 1 1#1
  let main_v13 : IVec S_ 1 := (fun x v => Host.reduce IntOp.andi x v reducesTo_S4x1024_S_d0_1 h_S_) main_v12 main_c_6
  let main_v14 : IVec S_ 1 := andi main_v10 main_v13
  main_v14
-- ==== Kernel.lean ====
abbrev S4x1024x1024 : Shape := ⟨3, ![4, 1024, 1024]⟩
abbrev S4x2048x1024 : Shape := ⟨3, ![4, 2048, 1024]⟩
abbrev S4x1024 : Shape := ⟨2, ![4, 1024]⟩
abbrev S1024x1024 : Shape := ⟨2, ![1024, 1024]⟩
abbrev S64 : Shape := ⟨1, ![64]⟩
abbrev S1024 : Shape := ⟨1, ![1024]⟩
abbrev S4096x1024 : Shape := ⟨2, ![4096, 1024]⟩
abbrev S4 : Shape := ⟨1, ![4]⟩
abbrev S_ : Shape := ⟨0, ![]⟩
abbrev S4x1 : Shape := ⟨2, ![4, 1]⟩
abbrev S1x4096 : Shape := ⟨2, ![1, 4096]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S1x32768 : Shape := ⟨2, ![1, 32768]⟩
abbrev S65536x128 : Shape := ⟨2, ![65536, 128]⟩
abbrev S32768x128 : Shape := ⟨2, ![32768, 128]⟩
abbrev S2x128x128 : Shape := ⟨3, ![2, 128, 128]⟩
abbrev S1x1024 : Shape := ⟨2, ![1, 1024]⟩
abbrev S1x128x128 : Shape := ⟨3, ![1, 128, 128]⟩
abbrev S128x128 : Shape := ⟨2, ![128, 128]⟩
abbrev S128 : Shape := ⟨1, ![128]⟩
abbrev S2x16x1024 : Shape := ⟨3, ![2, 16, 1024]⟩
abbrev S2 : Shape := ⟨1, ![2]⟩
abbrev S1x16x1024 : Shape := ⟨3, ![1, 16, 1024]⟩
abbrev S16x1024 : Shape := ⟨2, ![16, 1024]⟩
abbrev S1 : Shape := ⟨1, ![1]⟩
abbrev S16 : Shape := ⟨1, ![16]⟩
abbrev S1x16 : Shape := ⟨2, ![1, 16]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Table → Nat
  | .hbm => 35
  | .local .tc .vmem => 13
  | .local .scVector .vmem => 5
  | _ => 0

abbrev bufTy : (tb : Table) → Fin (nBuf tb) → BufTy
  | .hbm, ⟨0, _⟩ => ⟨S4x1024x1024, .f32⟩
  | .hbm, ⟨1, _⟩ => ⟨S4x1024x1024, .i32⟩
  | .hbm, ⟨2, _⟩ => ⟨S4x1024x1024, .f32⟩
  | .hbm, ⟨3, _⟩ => ⟨S4x2048x1024, .f32⟩
  | .hbm, ⟨4, _⟩ => ⟨S4x1024, .i32⟩
  | .hbm, ⟨5, _⟩ => ⟨S1024x1024, .f32⟩
  | .hbm, ⟨6, _⟩ => ⟨S64, .f32⟩
  | .hbm, ⟨7, _⟩ => ⟨S1024x1024, .f32⟩
  | .hbm, ⟨8, _⟩ => ⟨S1024, .f32⟩
  | .hbm, ⟨9, _⟩ => ⟨S4096x1024, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S4x1024, .i32⟩
  | .hbm, ⟨16, _⟩ => ⟨S4x1024, .i32⟩
  | .hbm, ⟨17, _⟩ => ⟨S1x4096, .i32⟩
  | .hbm, ⟨18, _⟩ => ⟨S4096x1, .i32⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S8, .i32⟩
  | .hbm, ⟨23, _⟩ => ⟨S1x8, .i32⟩
  | .hbm, ⟨24, _⟩ => ⟨S4096x8, .i32⟩
  | .hbm, ⟨25, _⟩ => ⟨S4096x8, .i32⟩
  | .hbm, ⟨26, _⟩ => ⟨S4096x8, .i32⟩
  | .hbm, ⟨27, _⟩ => ⟨S1x32768, .i32⟩
  | .hbm, ⟨28, _⟩ => ⟨S65536x128, .f32⟩
  | .hbm, ⟨29, _⟩ => ⟨S4096x1024, .f32⟩
  | .hbm, ⟨30, _⟩ => ⟨S32768x128, .f32⟩
  | .hbm, ⟨31, _⟩ => ⟨S4x1024x1024, .f32⟩
  | .hbm, ⟨32, _⟩ => ⟨S4x1024x1024, .f32⟩
  | .hbm, ⟨33, _⟩ => ⟨S1x1024, .f32⟩
  | .hbm, ⟨34, _⟩ => ⟨S4x1024x1024, .f32⟩
  | .local .tc .vmem, ⟨0, _⟩ => ⟨S1x512x1024, .f32⟩
  | .local .tc .vmem, ⟨1, _⟩ => ⟨S1x512x1024, .f32⟩
  | .local .tc .vmem, ⟨2, _⟩ => ⟨S1x512x1024, .f32⟩
  | .local .tc .vmem, ⟨3, _⟩ => ⟨S1x512x1024, .f32⟩
  | .local .tc .vmem, ⟨4, _⟩ => ⟨S1x1024x1024, .f32⟩
  | .local .tc .vmem, ⟨5, _⟩ => ⟨S1x1024x1024, .f32⟩
  | .local .tc .vmem, ⟨6, _⟩ => ⟨S1x512x1024, .f32⟩
  | .local .tc .vmem, ⟨7, _⟩ => ⟨S1x512x1024, .f32⟩
  | .local .tc .vmem, ⟨8, _⟩ => ⟨S1024x1024, .f32⟩
  | .local .tc .vmem, ⟨9, _⟩ => ⟨S1024x1024, .f32⟩
  | .local .tc .vmem, ⟨10, _⟩ => ⟨S1x1024, .f32⟩
  | .local .tc .vmem, ⟨11, _⟩ => ⟨S1x512x1024, .f32⟩
  | .local .tc .vmem, ⟨12, _⟩ => ⟨S1x512x1024, .f32⟩
  | .local .scVector .vmem, ⟨0, _⟩ => ⟨S64, .f32⟩
  | .local .scVector .vmem, ⟨1, _⟩ => ⟨S1024, .i32⟩
  | .local .scVector .vmem, ⟨2, _⟩ => ⟨S2x128x128, .f32⟩
  | .local .scVector .vmem, ⟨3, _⟩ => ⟨S2x16x1024, .i32⟩
  | .local .scVector .vmem, ⟨4, _⟩ => ⟨S2x16x1024, .f32⟩
  | _, _ => ⟨S4x1024x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v0_scv : Ref sig .scVector := ⟨.hbm, 9, rfl⟩
abbrev main_v16_scv : Ref sig .scVector := ⟨.hbm, 27, rfl⟩
abbrev main_v17_scv : Ref sig .scVector := ⟨.hbm, 28, rfl⟩
abbrev main_arg6_scv : Ref sig .scVector := ⟨.hbm, 6, rfl⟩
abbrev main_v18_0_scv : Ref sig .scVector := ⟨.hbm, 29, rfl⟩
abbrev main_v18_1_scv : Ref sig .scVector := ⟨.hbm, 30, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scoped2 : Ref sig .scVector := ⟨.vmem, 3, rfl⟩
abbrev cc0_scoped4 : Ref sig .scVector := ⟨.vmem, 4, rfl⟩
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
def k0_off2 (i : grid0.Coords) (c0_i32_16 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v15 : BitVec 32 := Scalar.addi v2 c0_i32_16
  let c0_i32_20 : BitVec 32 := 0#32
  ![v15.toNat, 0]
def k0_off3 : Fin 3 → Nat :=
  let c0_i32_231_r2 : BitVec 32 := 0#32
  let c2_i32_232_r2 : BitVec 32 := 2#32
  let v200_r2 : BitVec 32 := Scalar.remui c0_i32_231_r2 c2_i32_232_r2
  let c0_i32_234_r2 : BitVec 32 := 0#32
  let c0_i32_235_r2 : BitVec 32 := 0#32
  ![v200_r2.toNat, 0, 0]
def k0_off4 (i : grid0.Coords) : Fin 2 → Nat :=
  let c16_i32_233_r2 : BitVec 32 := 16#32
  let c0_i32_219_r2 : BitVec 32 := 0#32
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v186_r2 : BitVec 32 := Scalar.addi c0_i32_219_r2 v183
  let v201_r2 : BitVec 32 := Scalar.muli c16_i32_233_r2 v186_r2
  let c0_i32_236_r2 : BitVec 32 := 0#32
  ![v201_r2.toNat, 0]
def k0_off5 : Fin 1 → Nat :=
  let c0_i32_231_r2 : BitVec 32 := 0#32
  let c2_i32_232_r2 : BitVec 32 := 2#32
  let v200_r2 : BitVec 32 := Scalar.remui c0_i32_231_r2 c2_i32_232_r2
  ![v200_r2.toNat]
@[reducible] def k0_t1_loop : Scf.Loop 32 :=
  let c0_i32_246_r2 : BitVec 32 := 0#32
  let c8_i32_247_r2 : BitVec 32 := 8#32
  let v211_r2 : BitVec 32 := Scalar.addi c0_i32_246_r2 c8_i32_247_r2
  let c1_i32_248_r2 : BitVec 32 := 1#32
  ⟨c0_i32_246_r2, v211_r2, c1_i32_248_r2⟩
def k0_off6 (arg15_r2 : BitVec 32) : Fin 3 → Nat :=
  let c2_i32_322_r2 : BitVec 32 := 2#32
  let v324_r2 : BitVec 32 := Scalar.remui arg15_r2 c2_i32_322_r2
  let c0_i32_324_r2 : BitVec 32 := 0#32
  let c0_i32_325_r2 : BitVec 32 := 0#32
  ![v324_r2.toNat, 0, 0]
def k0_cond1 (i : grid0.Coords) (k0_t1 : Fin k0_t1_loop.trips) (arg19_r2 : BitVec 32) : BitVec 1 :=
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v245_r2 : BitVec 32 := Scalar.addi arg19_r2 v183
  let true_281_r2 : BitVec 1 := 1#1
  let c1_i32_280_r2 : BitVec 32 := 1#32
  let v251_r2 : BitVec 32 := Scalar.addi arg19_r2 c1_i32_280_r2
  let v252_r2 : BitVec 32 := Scalar.select true_281_r2 v251_r2 arg19_r2
  let c8_i32_282_r2 : BitVec 32 := 8#32
  let v253_r2 : BitVec 1 := Scalar.cmpi .eq v252_r2 c8_i32_282_r2
  let c0_i32_283_r2 : BitVec 32 := 0#32
  let v254_r2 : BitVec 32 := Scalar.select v253_r2 c0_i32_283_r2 v252_r2
  let v255_r2 : BitVec 32 := Scalar.addi v254_r2 v183
  let v261_r2 : BitVec 1 := Scalar.cmpi .ne v245_r2 v255_r2
  let c0_i32_246_r2 : BitVec 32 := 0#32
  let c1_i32_248_r2 : BitVec 32 := 1#32
  let arg14_r2 : BitVec 32 := Scf.iv c0_i32_246_r2 c1_i32_248_r2 k0_t1
  let c7_i32_288_r2 : BitVec 32 := 7#32
  let v262_r2 : BitVec 1 := Scalar.cmpi .sge arg14_r2 c7_i32_288_r2
  let true_289_r2 : BitVec 1 := 1#1
  let v263_r2 : BitVec 1 := Scalar.xori v262_r2 true_289_r2
  let v264_r2 : BitVec 1 := Scalar.andi v261_r2 v263_r2
  let true_290_r2 : BitVec 1 := 1#1
  let v265_r2 : BitVec 1 := Scalar.andi v264_r2 true_290_r2
  let v266_r2 : BitVec 32 := Scalar.extui v265_r2
  let c0_i32_291_r2 : BitVec 32 := 0#32
  let v267_r2 : BitVec 1 := Scalar.cmpi .ne v266_r2 c0_i32_291_r2
  v267_r2

def k0_off7 (i : grid0.Coords) (arg19_r2 : BitVec 32) : Fin 2 → Nat :=
  let c16_i32_323_r2 : BitVec 32 := 16#32
  let true_281_r2 : BitVec 1 := 1#1
  let c1_i32_280_r2 : BitVec 32 := 1#32
  let v251_r2 : BitVec 32 := Scalar.addi arg19_r2 c1_i32_280_r2
  let v252_r2 : BitVec 32 := Scalar.select true_281_r2 v251_r2 arg19_r2
  let c8_i32_282_r2 : BitVec 32 := 8#32
  let v253_r2 : BitVec 1 := Scalar.cmpi .eq v252_r2 c8_i32_282_r2
  let c0_i32_283_r2 : BitVec 32 := 0#32
  let v254_r2 : BitVec 32 := Scalar.select v253_r2 c0_i32_283_r2 v252_r2
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v255_r2 : BitVec 32 := Scalar.addi v254_r2 v183
  let v325_r2 : BitVec 32 := Scalar.muli c16_i32_323_r2 v255_r2
  let c0_i32_326_r2 : BitVec 32 := 0#32
  ![v325_r2.toNat, 0]
def k0_off8 (arg15_r2 : BitVec 32) : Fin 1 → Nat :=
  let c2_i32_322_r2 : BitVec 32 := 2#32
  let v324_r2 : BitVec 32 := Scalar.remui arg15_r2 c2_i32_322_r2
  ![v324_r2.toNat]
def k0_off9 (arg16_r2 : BitVec 32) : Fin 3 → Nat :=
  let c2_i32_323_r2 : BitVec 32 := 2#32
  let v325_r2 : BitVec 32 := Scalar.remui arg16_r2 c2_i32_323_r2
  let c0_i32_324_r2 : BitVec 32 := 0#32
  let c0_i32_325_r2 : BitVec 32 := 0#32
  ![v325_r2.toNat, 0, 0]
def k0_cond2 (i : grid0.Coords) (k0_t1 : Fin k0_t1_loop.trips) (arg19_r2 : BitVec 32) : BitVec 1 :=
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v245_r2 : BitVec 32 := Scalar.addi arg19_r2 v183
  let true_277_r2 : BitVec 1 := 1#1
  let c1_i32_276_r2 : BitVec 32 := 1#32
  let v246_r2 : BitVec 32 := Scalar.subi arg19_r2 c1_i32_276_r2
  let v247_r2 : BitVec 32 := Scalar.select true_277_r2 v246_r2 arg19_r2
  let c_m1_i32_278_r2 : BitVec 32 := 4294967295#32
  let v248_r2 : BitVec 1 := Scalar.cmpi .eq v247_r2 c_m1_i32_278_r2
  let c7_i32_279_r2 : BitVec 32 := 7#32
  let v249_r2 : BitVec 32 := Scalar.select v248_r2 c7_i32_279_r2 v247_r2
  let v250_r2 : BitVec 32 := Scalar.addi v249_r2 v183
  let v275_r2 : BitVec 1 := Scalar.cmpi .ne v245_r2 v250_r2
  let c0_i32_246_r2 : BitVec 32 := 0#32
  let c1_i32_248_r2 : BitVec 32 := 1#32
  let arg14_r2 : BitVec 32 := Scf.iv c0_i32_246_r2 c1_i32_248_r2 k0_t1
  let c0_i32_274_r2 : BitVec 32 := 0#32
  let v243_r2 : BitVec 1 := Scalar.cmpi .eq arg14_r2 c0_i32_274_r2
  let v276_r2 : BitVec 1 := Scalar.ori v275_r2 v243_r2
  let c0_i32_296_r2 : BitVec 32 := 0#32
  let v277_r2 : BitVec 1 := Scalar.cmpi .sge arg14_r2 c0_i32_296_r2
  let v278_r2 : BitVec 1 := Scalar.andi v276_r2 v277_r2
  let v279_r2 : BitVec 32 := Scalar.extui v278_r2
  let c0_i32_297_r2 : BitVec 32 := 0#32
  let v280_r2 : BitVec 1 := Scalar.cmpi .ne v279_r2 c0_i32_297_r2
  v280_r2

def k0_off10 (i : grid0.Coords) (arg19_r2 : BitVec 32) : Fin 2 → Nat :=
  let c16_i32_322_r2 : BitVec 32 := 16#32
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v245_r2 : BitVec 32 := Scalar.addi arg19_r2 v183
  let v324_r2 : BitVec 32 := Scalar.muli c16_i32_322_r2 v245_r2
  let c0_i32_326_r2 : BitVec 32 := 0#32
  ![v324_r2.toNat, 0]
def k0_off11 (arg16_r2 : BitVec 32) : Fin 1 → Nat :=
  let c2_i32_323_r2 : BitVec 32 := 2#32
  let v325_r2 : BitVec 32 := Scalar.remui arg16_r2 c2_i32_323_r2
  ![v325_r2.toNat]
@[reducible] def k0_t2_loop : Scf.Loop 32 :=
  let c0_i32_302_r2 : BitVec 32 := 0#32
  let c16_i32_303_r2 : BitVec 32 := 16#32
  let v289_r2 : BitVec 32 := Scalar.addi c0_i32_302_r2 c16_i32_303_r2
  let c1_i32_304_r2 : BitVec 32 := 1#32
  ⟨c0_i32_302_r2, v289_r2, c1_i32_304_r2⟩
@[reducible] def k0_t3_loop : Scf.Loop 32 :=
  let c0_i32_324_r2 : BitVec 32 := 0#32
  let c64_i32_r2 : BitVec 32 := 64#32
  let v326_r2 : BitVec 32 := Scalar.addi c0_i32_324_r2 c64_i32_r2
  let c1_i32_325_r2 : BitVec 32 := 1#32
  ⟨c0_i32_324_r2, v326_r2, c1_i32_325_r2⟩
def k0_off12 (arg16_r2 : BitVec 32) : Fin 3 → Nat :=
  let c2_i32_300_r2 : BitVec 32 := 2#32
  let v287_r2 : BitVec 32 := Scalar.remui arg16_r2 c2_i32_300_r2
  let c0_i32_329_r2 : BitVec 32 := 0#32
  let c0_i32_330_r2 : BitVec 32 := 0#32
  ![v287_r2.toNat, 0, 0]

def k0_chk2 (arg16_r2 : BitVec 32) : Prop :=
  (∀ a, (k0_off12 arg16_r2) a + S1x16x1024.size a ≤ S2x16x1024.size a)
theorem k0_off12_inb : ∀ (arg16_r2 : BitVec 32) (k0_hw2 : k0_chk2 arg16_r2), ∀ a, (k0_off12 arg16_r2) a + S1x16x1024.size a ≤ S2x16x1024.size a := fun arg16_r2 k0_hw2 => k0_hw2

def k0_off13 (k0_t2 : Fin k0_t2_loop.trips) (k0_t3 : Fin k0_t3_loop.trips) : Fin 2 → Nat :=
  let c0_i32_323_r2 : BitVec 32 := 0#32
  let c0_i32_302_r2 : BitVec 32 := 0#32
  let c1_i32_304_r2 : BitVec 32 := 1#32
  let arg20_r2 : BitVec 32 := Scf.iv c0_i32_302_r2 c1_i32_304_r2 k0_t2
  let c1_i32_322_r2 : BitVec 32 := 1#32
  let v324_r2 : BitVec 32 := Scalar.muli arg20_r2 c1_i32_322_r2
  let v325_r2 : BitVec 32 := Scalar.addi c0_i32_323_r2 v324_r2
  let v331_r2 : Index := Scalar.indexCast v325_r2
  let c0_i32_328_r2 : BitVec 32 := 0#32
  let c0_i32_324_r2 : BitVec 32 := 0#32
  let c1_i32_325_r2 : BitVec 32 := 1#32
  let arg21_r2 : BitVec 32 := Scf.iv c0_i32_324_r2 c1_i32_325_r2 k0_t3
  let c16_i32_327_r2 : BitVec 32 := 16#32
  let v327_r2 : BitVec 32 := Scalar.muli arg21_r2 c16_i32_327_r2
  let v328_r2 : BitVec 32 := Scalar.addi c0_i32_328_r2 v327_r2
  let v332_r2 : Index := Scalar.indexCast v328_r2
  ![v331_r2.toNat, v332_r2.toNat]

def k0_chk3 (v333_r2 : IVec S16 32) : Prop :=
  (∀ a x, ((![v333_r2] : Fin 1 → IVec S16 32) a x).toNat < S64.size a)
theorem k0_idx1_inb : ∀ (v333_r2 : IVec S16 32) (k0_hw3 : k0_chk3 v333_r2), ∀ a x, ((![v333_r2] : Fin 1 → IVec S16 32) a x).toNat < S64.size a := fun v333_r2 k0_hw3 => k0_hw3
def k0_off14 (arg17_r2 : BitVec 32) : Fin 3 → Nat :=
  let c2_i32_301_r2 : BitVec 32 := 2#32
  let v288_r2 : BitVec 32 := Scalar.remui arg17_r2 c2_i32_301_r2
  let c0_i32_331_r2 : BitVec 32 := 0#32
  let c0_i32_332_r2 : BitVec 32 := 0#32
  ![v288_r2.toNat, 0, 0]

def k0_chk4 (arg17_r2 : BitVec 32) : Prop :=
  (∀ a, (k0_off14 arg17_r2) a + S1x16x1024.size a ≤ S2x16x1024.size a)
theorem k0_off14_inb : ∀ (arg17_r2 : BitVec 32) (k0_hw4 : k0_chk4 arg17_r2), ∀ a, (k0_off14 arg17_r2) a + S1x16x1024.size a ≤ S2x16x1024.size a := fun arg17_r2 k0_hw4 => k0_hw4

def k0_off15 (k0_t2 : Fin k0_t2_loop.trips) (k0_t3 : Fin k0_t3_loop.trips) : Fin 2 → Nat :=
  let c0_i32_323_r2 : BitVec 32 := 0#32
  let c0_i32_302_r2 : BitVec 32 := 0#32
  let c1_i32_304_r2 : BitVec 32 := 1#32
  let arg20_r2 : BitVec 32 := Scf.iv c0_i32_302_r2 c1_i32_304_r2 k0_t2
  let c1_i32_322_r2 : BitVec 32 := 1#32
  let v324_r2 : BitVec 32 := Scalar.muli arg20_r2 c1_i32_322_r2
  let v325_r2 : BitVec 32 := Scalar.addi c0_i32_323_r2 v324_r2
  let v337_r2 : Index := Scalar.indexCast v325_r2
  let c0_i32_328_r2 : BitVec 32 := 0#32
  let c0_i32_324_r2 : BitVec 32 := 0#32
  let c1_i32_325_r2 : BitVec 32 := 1#32
  let arg21_r2 : BitVec 32 := Scf.iv c0_i32_324_r2 c1_i32_325_r2 k0_t3
  let c16_i32_327_r2 : BitVec 32 := 16#32
  let v327_r2 : BitVec 32 := Scalar.muli arg21_r2 c16_i32_327_r2
  let v328_r2 : BitVec 32 := Scalar.addi c0_i32_328_r2 v327_r2
  let v338_r2 : Index := Scalar.indexCast v328_r2
  ![v337_r2.toNat, v338_r2.toNat]
def k0_off16 (arg17_r2 : BitVec 32) : Fin 3 → Nat :=
  let c2_i32_322_r2 : BitVec 32 := 2#32
  let v324_r2 : BitVec 32 := Scalar.remui arg17_r2 c2_i32_322_r2
  let c0_i32_324_r2 : BitVec 32 := 0#32
  let c0_i32_325_r2 : BitVec 32 := 0#32
  ![v324_r2.toNat, 0, 0]
def k0_cond5 (i : grid0.Coords) (k0_t1 : Fin k0_t1_loop.trips) (arg19_r2 : BitVec 32) : BitVec 1 :=
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v245_r2 : BitVec 32 := Scalar.addi arg19_r2 v183
  let true_281_r2 : BitVec 1 := 1#1
  let c1_i32_280_r2 : BitVec 32 := 1#32
  let v251_r2 : BitVec 32 := Scalar.addi arg19_r2 c1_i32_280_r2
  let v252_r2 : BitVec 32 := Scalar.select true_281_r2 v251_r2 arg19_r2
  let c8_i32_282_r2 : BitVec 32 := 8#32
  let v253_r2 : BitVec 1 := Scalar.cmpi .eq v252_r2 c8_i32_282_r2
  let c0_i32_283_r2 : BitVec 32 := 0#32
  let v254_r2 : BitVec 32 := Scalar.select v253_r2 c0_i32_283_r2 v252_r2
  let v255_r2 : BitVec 32 := Scalar.addi v254_r2 v183
  let v295_r2 : BitVec 1 := Scalar.cmpi .ne v245_r2 v255_r2
  let c0_i32_246_r2 : BitVec 32 := 0#32
  let c1_i32_248_r2 : BitVec 32 := 1#32
  let arg14_r2 : BitVec 32 := Scf.iv c0_i32_246_r2 c1_i32_248_r2 k0_t1
  let c7_i32_275_r2 : BitVec 32 := 7#32
  let v244_r2 : BitVec 1 := Scalar.cmpi .eq arg14_r2 c7_i32_275_r2
  let v296_r2 : BitVec 1 := Scalar.ori v295_r2 v244_r2
  let v297_r2 : BitVec 32 := Scalar.extui v296_r2
  let c0_i32_307_r2 : BitVec 32 := 0#32
  let v298_r2 : BitVec 1 := Scalar.cmpi .ne v297_r2 c0_i32_307_r2
  v298_r2

def k0_off17 (i : grid0.Coords) (arg19_r2 : BitVec 32) : Fin 2 → Nat :=
  let c16_i32_323_r2 : BitVec 32 := 16#32
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v245_r2 : BitVec 32 := Scalar.addi arg19_r2 v183
  let v325_r2 : BitVec 32 := Scalar.muli c16_i32_323_r2 v245_r2
  let c0_i32_326_r2 : BitVec 32 := 0#32
  ![v325_r2.toNat, 0]
def k0_off18 (arg17_r2 : BitVec 32) : Fin 1 → Nat :=
  let c2_i32_322_r2 : BitVec 32 := 2#32
  let v324_r2 : BitVec 32 := Scalar.remui arg17_r2 c2_i32_322_r2
  ![v324_r2.toNat]
def k0_off19 (arg18_r2 : BitVec 32) : Fin 3 → Nat :=
  let c2_i32_322_r2 : BitVec 32 := 2#32
  let v324_r2 : BitVec 32 := Scalar.remui arg18_r2 c2_i32_322_r2
  let c0_i32_324_r2 : BitVec 32 := 0#32
  let c0_i32_325_r2 : BitVec 32 := 0#32
  ![v324_r2.toNat, 0, 0]
def k0_cond7 (i : grid0.Coords) (k0_t1 : Fin k0_t1_loop.trips) (arg19_r2 : BitVec 32) : BitVec 1 :=
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v245_r2 : BitVec 32 := Scalar.addi arg19_r2 v183
  let true_277_r2 : BitVec 1 := 1#1
  let c1_i32_276_r2 : BitVec 32 := 1#32
  let v246_r2 : BitVec 32 := Scalar.subi arg19_r2 c1_i32_276_r2
  let v247_r2 : BitVec 32 := Scalar.select true_277_r2 v246_r2 arg19_r2
  let c_m1_i32_278_r2 : BitVec 32 := 4294967295#32
  let v248_r2 : BitVec 1 := Scalar.cmpi .eq v247_r2 c_m1_i32_278_r2
  let c7_i32_279_r2 : BitVec 32 := 7#32
  let v249_r2 : BitVec 32 := Scalar.select v248_r2 c7_i32_279_r2 v247_r2
  let v250_r2 : BitVec 32 := Scalar.addi v249_r2 v183
  let v308_r2 : BitVec 1 := Scalar.cmpi .ne v245_r2 v250_r2
  let c0_i32_246_r2 : BitVec 32 := 0#32
  let c1_i32_248_r2 : BitVec 32 := 1#32
  let arg14_r2 : BitVec 32 := Scf.iv c0_i32_246_r2 c1_i32_248_r2 k0_t1
  let c0_i32_274_r2 : BitVec 32 := 0#32
  let v243_r2 : BitVec 1 := Scalar.cmpi .eq arg14_r2 c0_i32_274_r2
  let true_313_r2 : BitVec 1 := 1#1
  let v309_r2 : BitVec 1 := Scalar.xori v243_r2 true_313_r2
  let v310_r2 : BitVec 1 := Scalar.andi v308_r2 v309_r2
  let v311_r2 : BitVec 32 := Scalar.extui v310_r2
  let c0_i32_314_r2 : BitVec 32 := 0#32
  let v312_r2 : BitVec 1 := Scalar.cmpi .ne v311_r2 c0_i32_314_r2
  v312_r2

def k0_off20 (i : grid0.Coords) (arg19_r2 : BitVec 32) : Fin 2 → Nat :=
  let c16_i32_323_r2 : BitVec 32 := 16#32
  let true_277_r2 : BitVec 1 := 1#1
  let c1_i32_276_r2 : BitVec 32 := 1#32
  let v246_r2 : BitVec 32 := Scalar.subi arg19_r2 c1_i32_276_r2
  let v247_r2 : BitVec 32 := Scalar.select true_277_r2 v246_r2 arg19_r2
  let c_m1_i32_278_r2 : BitVec 32 := 4294967295#32
  let v248_r2 : BitVec 1 := Scalar.cmpi .eq v247_r2 c_m1_i32_278_r2
  let c7_i32_279_r2 : BitVec 32 := 7#32
  let v249_r2 : BitVec 32 := Scalar.select v248_r2 c7_i32_279_r2 v247_r2
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v250_r2 : BitVec 32 := Scalar.addi v249_r2 v183
  let v325_r2 : BitVec 32 := Scalar.muli c16_i32_323_r2 v250_r2
  let c0_i32_326_r2 : BitVec 32 := 0#32
  ![v325_r2.toNat, 0]
def k0_off21 (arg18_r2 : BitVec 32) : Fin 1 → Nat :=
  let c2_i32_322_r2 : BitVec 32 := 2#32
  let v324_r2 : BitVec 32 := Scalar.remui arg18_r2 c2_i32_322_r2
  ![v324_r2.toNat]

def k0_chk1 (i : grid0.Coords) (k0_t1 : Fin k0_t1_loop.trips) (arg15_r2 : BitVec 32) (arg16_r2 : BitVec 32) (arg17_r2 : BitVec 32) (arg18_r2 : BitVec 32) (arg19_r2 : BitVec 32) : Prop :=
  (∀ (k0_h1 : k0_cond1 i k0_t1 arg19_r2 = 1#1), ∀ a, (k0_off6 arg15_r2) a + S1x16x1024.size a ≤ S2x16x1024.size a) ∧
  (∀ (k0_h1 : k0_cond1 i k0_t1 arg19_r2 = 1#1), ∀ a, (k0_off7 i arg19_r2) a + S16x1024.size a ≤ S4096x1024.size a) ∧
  (∀ (k0_h1 : k0_cond1 i k0_t1 arg19_r2 = 1#1), ∀ a, (k0_off8 arg15_r2) a + S1.size a ≤ S2.size a) ∧
  (∀ (k0_h2 : k0_cond2 i k0_t1 arg19_r2 = 1#1), ∀ a, (k0_off9 arg16_r2) a + S1x16x1024.size a ≤ S2x16x1024.size a) ∧
  (∀ (k0_h2 : k0_cond2 i k0_t1 arg19_r2 = 1#1), ∀ a, (k0_off10 i arg19_r2) a + S16x1024.size a ≤ S4096x1024.size a) ∧
  (∀ (k0_h2 : k0_cond2 i k0_t1 arg19_r2 = 1#1), ∀ a, (k0_off11 arg16_r2) a + S1.size a ≤ S2.size a) ∧
  (∀ (k0_h5 : k0_cond5 i k0_t1 arg19_r2 = 1#1), ∀ a, (k0_off16 arg17_r2) a + S1x16x1024.size a ≤ S2x16x1024.size a) ∧
  (∀ (k0_h5 : k0_cond5 i k0_t1 arg19_r2 = 1#1), ∀ a, (k0_off17 i arg19_r2) a + S16x1024.size a ≤ S4096x1024.size a) ∧
  (∀ (k0_h5 : k0_cond5 i k0_t1 arg19_r2 = 1#1), ∀ a, (k0_off18 arg17_r2) a + S1.size a ≤ S2.size a) ∧
  (∀ (k0_h7 : k0_cond7 i k0_t1 arg19_r2 = 1#1), ∀ a, (k0_off19 arg18_r2) a + S1x16x1024.size a ≤ S2x16x1024.size a) ∧
  (∀ (k0_h7 : k0_cond7 i k0_t1 arg19_r2 = 1#1), ∀ a, (k0_off20 i arg19_r2) a + S16x1024.size a ≤ S4096x1024.size a) ∧
  (∀ (k0_h7 : k0_cond7 i k0_t1 arg19_r2 = 1#1), ∀ a, (k0_off21 arg18_r2) a + S1.size a ≤ S2.size a)
theorem k0_off6_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h1 : k0_cond1 i k0_t1 arg19_r2 = 1#1), ∀ a, (k0_off6 arg15_r2) a + S1x16x1024.size a ≤ S2x16x1024.size a := fun i k0_t1 arg15_r2 arg16_r2 arg17_r2 arg18_r2 arg19_r2 k0_hw1 k0_h1 => k0_hw1.1 k0_h1
theorem k0_off7_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h1 : k0_cond1 i k0_t1 arg19_r2 = 1#1), ∀ a, (k0_off7 i arg19_r2) a + S16x1024.size a ≤ S4096x1024.size a := fun i k0_t1 arg15_r2 arg16_r2 arg17_r2 arg18_r2 arg19_r2 k0_hw1 k0_h1 => k0_hw1.2.1 k0_h1
theorem k0_off8_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h1 : k0_cond1 i k0_t1 arg19_r2 = 1#1), ∀ a, (k0_off8 arg15_r2) a + S1.size a ≤ S2.size a := fun i k0_t1 arg15_r2 arg16_r2 arg17_r2 arg18_r2 arg19_r2 k0_hw1 k0_h1 => k0_hw1.2.2.1 k0_h1
theorem k0_off9_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h2 : k0_cond2 i k0_t1 arg19_r2 = 1#1), ∀ a, (k0_off9 arg16_r2) a + S1x16x1024.size a ≤ S2x16x1024.size a := fun i k0_t1 arg15_r2 arg16_r2 arg17_r2 arg18_r2 arg19_r2 k0_hw1 k0_h2 => k0_hw1.2.2.2.1 k0_h2
theorem k0_off10_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h2 : k0_cond2 i k0_t1 arg19_r2 = 1#1), ∀ a, (k0_off10 i arg19_r2) a + S16x1024.size a ≤ S4096x1024.size a := fun i k0_t1 arg15_r2 arg16_r2 arg17_r2 arg18_r2 arg19_r2 k0_hw1 k0_h2 => k0_hw1.2.2.2.2.1 k0_h2
theorem k0_off11_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h2 : k0_cond2 i k0_t1 arg19_r2 = 1#1), ∀ a, (k0_off11 arg16_r2) a + S1.size a ≤ S2.size a := fun i k0_t1 arg15_r2 arg16_r2 arg17_r2 arg18_r2 arg19_r2 k0_hw1 k0_h2 => k0_hw1.2.2.2.2.2.1 k0_h2
theorem k0_off16_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h5 : k0_cond5 i k0_t1 arg19_r2 = 1#1), ∀ a, (k0_off16 arg17_r2) a + S1x16x1024.size a ≤ S2x16x1024.size a := fun i k0_t1 arg15_r2 arg16_r2 arg17_r2 arg18_r2 arg19_r2 k0_hw1 k0_h5 => k0_hw1.2.2.2.2.2.2.1 k0_h5
theorem k0_off17_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h5 : k0_cond5 i k0_t1 arg19_r2 = 1#1), ∀ a, (k0_off17 i arg19_r2) a + S16x1024.size a ≤ S4096x1024.size a := fun i k0_t1 arg15_r2 arg16_r2 arg17_r2 arg18_r2 arg19_r2 k0_hw1 k0_h5 => k0_hw1.2.2.2.2.2.2.2.1 k0_h5
theorem k0_off18_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h5 : k0_cond5 i k0_t1 arg19_r2 = 1#1), ∀ a, (k0_off18 arg17_r2) a + S1.size a ≤ S2.size a := fun i k0_t1 arg15_r2 arg16_r2 arg17_r2 arg18_r2 arg19_r2 k0_hw1 k0_h5 => k0_hw1.2.2.2.2.2.2.2.2.1 k0_h5
theorem k0_off19_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h7 : k0_cond7 i k0_t1 arg19_r2 = 1#1), ∀ a, (k0_off19 arg18_r2) a + S1x16x1024.size a ≤ S2x16x1024.size a := fun i k0_t1 arg15_r2 arg16_r2 arg17_r2 arg18_r2 arg19_r2 k0_hw1 k0_h7 => k0_hw1.2.2.2.2.2.2.2.2.2.1 k0_h7
theorem k0_off20_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h7 : k0_cond7 i k0_t1 arg19_r2 = 1#1), ∀ a, (k0_off20 i arg19_r2) a + S16x1024.size a ≤ S4096x1024.size a := fun i k0_t1 arg15_r2 arg16_r2 arg17_r2 arg18_r2 arg19_r2 k0_hw1 k0_h7 => k0_hw1.2.2.2.2.2.2.2.2.2.2.1 k0_h7
theorem k0_off21_inb : ∀ (i : grid0.Coords) (k0_t1 : Fin k0_t1_loop.trips) (arg15_r2 : BitVec 32) (arg16_r2 : BitVec 32) (arg17_r2 : BitVec 32) (arg18_r2 : BitVec 32) (arg19_r2 : BitVec 32) (k0_hw1 : k0_chk1 i k0_t1 arg15_r2 arg16_r2 arg17_r2 arg18_r2 arg19_r2), ∀ (k0_h7 : k0_cond7 i k0_t1 arg19_r2 = 1#1), ∀ a, (k0_off21 arg18_r2) a + S1.size a ≤ S2.size a := fun i k0_t1 arg15_r2 arg16_r2 arg17_r2 arg18_r2 arg19_r2 k0_hw1 k0_h7 => k0_hw1.2.2.2.2.2.2.2.2.2.2.2 k0_h7

def k0_off22 (v212_3_r2 : BitVec 32) : Fin 3 → Nat :=
  let c2_i32_266_r2 : BitVec 32 := 2#32
  let v233_r2 : BitVec 32 := Scalar.remui v212_3_r2 c2_i32_266_r2
  let c0_i32_268_r2 : BitVec 32 := 0#32
  let c0_i32_269_r2 : BitVec 32 := 0#32
  ![v233_r2.toNat, 0, 0]

def k0_off23 (i : grid0.Coords) (v212_4_r2 : BitVec 32) : Fin 2 → Nat :=
  let c16_i32_267_r2 : BitVec 32 := 16#32
  let true_251_r2 : BitVec 1 := 1#1
  let c1_i32_250_r2 : BitVec 32 := 1#32
  let v213_r2 : BitVec 32 := Scalar.subi v212_4_r2 c1_i32_250_r2
  let v214_r2 : BitVec 32 := Scalar.select true_251_r2 v213_r2 v212_4_r2
  let c_m1_i32_252_r2 : BitVec 32 := 4294967295#32
  let v215_r2 : BitVec 1 := Scalar.cmpi .eq v214_r2 c_m1_i32_252_r2
  let c7_i32_253_r2 : BitVec 32 := 7#32
  let v216_r2 : BitVec 32 := Scalar.select v215_r2 c7_i32_253_r2 v214_r2
  let c0_i32_217 : BitVec 32 := 0#32
  let arg1 : BitVec 32 := BitVec.ofNat 32 (i 1).val
  let c1_i32_216 : BitVec 32 := 1#32
  let v179 : BitVec 32 := Scalar.muli arg1 c1_i32_216
  let v180 : BitVec 32 := Scalar.addi c0_i32_217 v179
  let arg0 : BitVec 32 := BitVec.ofNat 32 (i 0).val
  let c16_i32 : BitVec 32 := 16#32
  let v181 : BitVec 32 := Scalar.muli arg0 c16_i32
  let v182 : BitVec 32 := Scalar.addi v180 v181
  let c8_i32 : BitVec 32 := 8#32
  let v183 : BitVec 32 := Scalar.muli v182 c8_i32
  let v217_r2 : BitVec 32 := Scalar.addi v216_r2 v183
  let v234_r2 : BitVec 32 := Scalar.muli c16_i32_267_r2 v217_r2
  let c0_i32_270_r2 : BitVec 32 := 0#32
  ![v234_r2.toNat, 0]

def k0_chk6 (i : grid0.Coords) (v212_4_r2 : BitVec 32) : Prop :=
  (∀ a, (k0_off23 i v212_4_r2) a + S16x1024.size a ≤ S4096x1024.size a)
theorem k0_off23_inb : ∀ (i : grid0.Coords) (v212_4_r2 : BitVec 32) (k0_hw6 : k0_chk6 i v212_4_r2), ∀ a, (k0_off23 i v212_4_r2) a + S16x1024.size a ≤ S4096x1024.size a := fun i v212_4_r2 k0_hw6 => k0_hw6

def k0_off24 (v212_3_r2 : BitVec 32) : Fin 1 → Nat :=
  let c2_i32_266_r2 : BitVec 32 := 2#32
  let v233_r2 : BitVec 32 := Scalar.remui v212_3_r2 c2_i32_266_r2
  ![v233_r2.toNat]
def k0_off25 (v212_3_r2 : BitVec 32) : Fin 3 → Nat :=
  let c2_i32_266_r2 : BitVec 32 := 2#32
  let v233_r2 : BitVec 32 := Scalar.remui v212_3_r2 c2_i32_266_r2
  let c0_i32_272_r2 : BitVec 32 := 0#32
  let c0_i32_273_r2 : BitVec 32 := 0#32
  ![v233_r2.toNat, 0, 0]

def k0_chk5 (v212_3_r2 : BitVec 32) : Prop :=
  (∀ a, (k0_off22 v212_3_r2) a + S1x16x1024.size a ≤ S2x16x1024.size a) ∧
  (∀ a, (k0_off24 v212_3_r2) a + S1.size a ≤ S2.size a) ∧
  (∀ a, (k0_off25 v212_3_r2) a + S1x16x1024.size a ≤ S2x16x1024.size a)
theorem k0_off22_inb : ∀ (v212_3_r2 : BitVec 32) (k0_hw5 : k0_chk5 v212_3_r2), ∀ a, (k0_off22 v212_3_r2) a + S1x16x1024.size a ≤ S2x16x1024.size a := fun v212_3_r2 k0_hw5 => k0_hw5.1
theorem k0_off24_inb : ∀ (v212_3_r2 : BitVec 32) (k0_hw5 : k0_chk5 v212_3_r2), ∀ a, (k0_off24 v212_3_r2) a + S1.size a ≤ S2.size a := fun v212_3_r2 k0_hw5 => k0_hw5.2.1
theorem k0_off25_inb : ∀ (v212_3_r2 : BitVec 32) (k0_hw5 : k0_chk5 v212_3_r2), ∀ a, (k0_off25 v212_3_r2) a + S1x16x1024.size a ≤ S2x16x1024.size a := fun v212_3_r2 k0_hw5 => k0_hw5.2.2

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x1024 : Shape := ⟨3, ![4, 1024, 1024]⟩
abbrev S4x2048x1024 : Shape := ⟨3, ![4, 2048, 1024]⟩
abbrev S4x1024 : Shape := ⟨2, ![4, 1024]⟩
abbrev S1024x1024 : Shape := ⟨2, ![1024, 1024]⟩
abbrev S64 : Shape := ⟨1, ![64]⟩
abbrev S1024 : Shape := ⟨1, ![1024]⟩
abbrev S_ : Shape := ⟨0, ![]⟩
abbrev S4x1024x1024x1 : Shape := ⟨4, ![4, 1024, 1024, 1]⟩
abbrev S1 : Shape := ⟨1, ![1]⟩
abbrev S1x1x1x1 : Shape := ⟨4, ![1, 1, 1, 1]⟩
abbrev S1x1x1024 : Shape := ⟨3, ![1, 1, 1024]⟩
abbrev S4x1024x1 : Shape := ⟨3, ![4, 1024, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .i32⟩
  | .hbm, ⟨2, _⟩ => ⟨S4x1024x1024, .f32⟩
  | .hbm, ⟨3, _⟩ => ⟨S4x2048x1024, .f32⟩
  | .hbm, ⟨4, _⟩ => ⟨S4x1024, .i32⟩
  | .hbm, ⟨5, _⟩ => ⟨S1024x1024, .f32⟩
  | .hbm, ⟨6, _⟩ => ⟨S64, .f32⟩
  | .hbm, ⟨7, _⟩ => ⟨S1024x1024, .f32⟩
  | .hbm, ⟨8, _⟩ => ⟨S1024, .f32⟩
  | .hbm, ⟨9, _⟩ => ⟨S_, .i32⟩
  | .hbm, ⟨10, _⟩ => ⟨S4x1024x1024, .i32⟩
  | .hbm, ⟨11, _⟩ => ⟨S4x1024x1024, .i1⟩
  | .hbm, ⟨12, _⟩ => ⟨S_, .i32⟩
  | .hbm, ⟨13, _⟩ => ⟨S4x1024x1024, .i32⟩
  | .hbm, ⟨14, _⟩ => ⟨S4x1024x1024, .i32⟩
  | .hbm, ⟨15, _⟩ => ⟨S4x1024x1024, .i32⟩
  | .hbm, ⟨16, _⟩ => ⟨S4x1024x1024x1, .i32⟩
  | .hbm, ⟨17, _⟩ => ⟨S1, .i32⟩
  | .hbm, ⟨18, _⟩ => ⟨S_, .i32⟩
  | .hbm, ⟨19, _⟩ => ⟨S4x1024x1024x1, .i32⟩
  | .hbm, ⟨20, _⟩ => ⟨S4x1024x1024x1, .i1⟩
  | .hbm, ⟨21, _⟩ => ⟨S1x1x1x1, .i32⟩
  | .hbm, ⟨22, _⟩ => ⟨S4x1024x1024x1, .i32⟩
  | .hbm, ⟨23, _⟩ => ⟨S4x1024x1024x1, .i1⟩
  | .hbm, ⟨24, _⟩ => ⟨S4x1024x1024x1, .i1⟩
  | .hbm, ⟨25, _⟩ => ⟨S_, .i1⟩
  | .hbm, ⟨26, _⟩ => ⟨S4x1024x1024, .i1⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x1024x1, .i32⟩
  | .hbm, ⟨43, _⟩ => ⟨S4x1024x1024, .i32⟩
  | .hbm, ⟨44, _⟩ => ⟨S_, .i32⟩
  | .hbm, ⟨45, _⟩ => ⟨S4x1024x1024, .i32⟩
  | .hbm, ⟨46, _⟩ => ⟨S4x1024x1024, .i1⟩
  | .hbm, ⟨47, _⟩ => ⟨S_, .i32⟩
  | .hbm, ⟨48, _⟩ => ⟨S4x1024x1024, .i32⟩
  | .hbm, ⟨49, _⟩ => ⟨S4x1024x1024, .i32⟩
  | .hbm, ⟨50, _⟩ => ⟨S4x1024x1024, .i32⟩
  | .hbm, ⟨51, _⟩ => ⟨S4x1024x1024x1, .i32⟩
  | .hbm, ⟨52, _⟩ => ⟨S1, .i32⟩
  | .hbm, ⟨53, _⟩ => ⟨S_, .i32⟩
  | .hbm, ⟨54, _⟩ => ⟨S4x1024x1024x1, .i32⟩
  | .hbm, ⟨55, _⟩ => ⟨S4x1024x1024x1, .i1⟩
  | .hbm, ⟨56, _⟩ => ⟨S1x1x1x1, .i32⟩
  | .hbm, ⟨57, _⟩ => ⟨S4x1024x1024x1, .i32⟩
  | .hbm, ⟨58, _⟩ => ⟨S4x1024x1024x1, .i1⟩
  | .hbm, ⟨59, _⟩ => ⟨S4x1024x1024x1, .i1⟩
  | .hbm, ⟨60, _⟩ => ⟨S_, .i1⟩
  | .hbm, ⟨61, _⟩ => ⟨S4x1024x1024, .i1⟩
  | .hbm, ⟨62, _⟩ => ⟨S4x1024x1024, .f32⟩
  | .hbm, ⟨63, _⟩ => ⟨S_, .f32⟩
  | .hbm, ⟨64, _⟩ => ⟨S4x1024x1024, .f32⟩
  | .hbm, ⟨65, _⟩ => ⟨S4x1024x1024, .f32⟩
  | .hbm, ⟨66, _⟩ => ⟨S_, .f32⟩
  | .hbm, ⟨67, _⟩ => ⟨S4x1024x1024, .f32⟩
  | .hbm, ⟨68, _⟩ => ⟨S4x1024x1024, .f32⟩
  | .hbm, ⟨69, _⟩ => ⟨S_, .f32⟩
  | .hbm, ⟨70, _⟩ => ⟨S4x1024x1024, .f32⟩
  | .hbm, ⟨71, _⟩ => ⟨S4x1024x1024, .f32⟩
  | .hbm, ⟨72, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_call1_cst : Ref sig .tc := ⟨.hbm, 34, rfl⟩
abbrev main_call1_v0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v12 : Ref sig .tc := ⟨.hbm, 65, rfl⟩
abbrev main_cst : Ref sig .tc := ⟨.hbm, 66, rfl⟩
abbrev main_v13 : Ref sig .tc := ⟨.hbm, 67, rfl⟩
abbrev main_v14 : Ref sig .tc := ⟨.hbm, 68, rfl⟩
abbrev main_cst_0 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩

abbrev nD : Nat := 1
abbrev τ : Topo := Topo.v7x

variable {F : FTy → Type} [FloatOps F]
-- ==== Proof.Steps.lean ====
/-
  Rules for one operation of a task each, in the form the two instances of the certificate use them: a copy or a
  gather is issued from elements that INCLUDE the ones it moves and delivers contents the caller names, a wait keeps
  the list of waits recorded behind an existential.
-/
module

public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.Proof.Steps

open Idealize.ShloMosaic
open Idealize.SL Idealize.SL.RA
open Idealize.SL.BI (sProp Storable bigSep)
open scoped Idealize.SL.BI
open Idealize.SL.BI.BIBase Idealize.SL.BI.Laws Idealize.SL.Sem Idealize.SL.ProofMode
open Idealize.ShloMosaic.Transfers (Flight Flight_mono MayWaits)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {α : Type} {Q : α → sProp (MT nD τ sig Ix (Elt F) Name U Lvl)} {sp sp' : Space} {s s₀ si : Shape} {e : EltTy} {a : Nat}

local notation "𝕄" => MT nD τ sig Ix (Elt F) Name U Lvl

/-- A transfer in flight delivers, beside its own delivery, anything set aside with it. -/
theorem flight_frame {sm : SemLoc sig} {ι : Ix} {N : ℕ} {D R : sProp 𝕄} :
    iprop(Flight EC c sm ι N D ∗ R) ⊢ Flight EC c sm ι N iprop(D ∗ R) := by
  unfold Transfers.Flight
  iintro ⟨⟨⟨%C, HC, %hcap, %hpeek⟩, Hcred⟩, HR⟩
  isplitl [HC HR]
  · iexists iprop(C ∗ R)
    isplitl [HC HR]; · isplitl [HC] <;> iassumption
    isplit
    · ipureintro
      intro K
      refine Entails.trans ?_ (hcap K)
      iintro ⟨⟨HC, HR⟩, HK⟩
      isplitl [HC]; · iexact HC
      iintro ⟨Hv, HD⟩
      iapply HK
      isplitl [Hv]; · iexact Hv
      isplitl [HD] <;> iassumption
    · ipureintro
      intro K
      refine Entails.trans ?_ (hpeek K)
      iintro ⟨⟨HC, HR⟩, HK⟩
      isplitl [HC]; · iexact HC
      iintro HC
      iapply HK
      isplitl [HC] <;> iassumption
  · iexact Hcred

/-- A local copy issued from elements of the source that include the ones read, onto elements of the destination
    that include the ones written, delivering both back, the destination's at contents `gd` the write agrees with. -/
theorem dma_step [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {fs : Buf (Elt F) (src.view.loc c)}
    {Ss : Finset (Idx (src.view.loc c))} {Sd : Finset (Idx (dst.view.loc c))} {fd : Buf (Elt F) (dst.view.loc c)}
    (gd : Buf (Elt F) (dst.view.loc c))
    (ι : Ix) (N : ℕ) (hN : dst.view.amount sm = N) (hN0 : 0 < N) (hSs : src.view.set ⊆ Ss) (hSd : dst.view.set ⊆ Sd)
    (hv : ∀ i ∈ Sd, dst.view.write (Elt F) fd (src.view.read (Elt F) fs) Finset.univ i = gd i) :
    iprop((src.view.loc c ↦[Ss]{q} fs) ∗ (dst.view.loc c ↦[Sd]{fullShare} fd) ∗ semVal (c, sm) 0)
      ⊢ iprop((Flight EC c sm ι N iprop((dst.view.loc c ↦[Sd]{fullShare} gd) ∗ (src.view.loc c ↦[Ss]{q} fs))
              -∗ wp frame (wpE defs 𝒱 c bd) Set.univ (k ⟨⟩) Q)
          -∗ wp frame (wpE defs 𝒱 c bd) Set.univ (.op (.enqueueDmaAs src (.here dst) .same sm hsrc hdst hsem) k) Q) := by
  iintro ⟨Hs, Hd, Hv⟩ Hk
  ihave Hs := (pointsTo_split_subset hSs).1 $$ Hs
  icases Hs with ⟨Hs, Hr⟩
  iapply (Transfers.wp_dmaLocal EC 𝒱 c bd (k := k) ι N hN hN0 hSd) $$ [Hs Hd Hv]
  · isplitl [Hs]; · iexact Hs
    isplitl [Hd] <;> iassumption
  iintro HF
  iapply Hk
  iapply (Flight_mono EC c (D := iprop((iprop((dst.view.loc c ↦[Sd]{fullShare} (dst.view.write (Elt F) fd (src.view.read (Elt F) fs) Finset.univ)) ∗ (src.view.loc c ↦[src.view.set]{q} fs))) ∗ (src.view.loc c ↦[Ss \ src.view.set]{q} fs))) (by
    iintro ⟨⟨Hd, Hs⟩, Hr⟩
    isplitl [Hd]
    · iapply (Entails.of_eq (pointsTo_congr hv)); iexact Hd
    · iapply (pointsTo_split_subset hSs).2
      isplitl [Hs] <;> iassumption))
  iapply (flight_frame EC c)
  isplitl [HF]; · iexact HF
  iexact Hr

/-- An indirect gather issued from elements of the list that include its window, delivering the destination at
    contents `gd` the gathered rows agree with, the source and the list as they were. -/
theorem gather_step [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {Ss : Finset (Idx (src.view.loc c))} {So : Finset (Idx (offs.view.loc c))} {Sd : Finset (Idx (dst.view.loc c))}
    (gd : Buf (Elt F) (dst.view.loc c))
    (ι : Ix) (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis)
    (hSs : src.view.set ⊆ Ss) (hSo : offs.view.set ⊆ So) (hSd : dst.view.set = Sd)
    (hv : ∀ i ∈ Sd, dst.view.write (Elt F) fd (SparseCore.gatherPayload hg (src.view.read (Elt F) fs)
      (SparseCore.rows (offs.view.read (Elt F) fo) hn hin)) Finset.univ i = gd i) :
    iprop((src.view.loc c ↦[Ss]{q} fs) ∗ (dst.view.loc c ↦[Sd]{fullShare} fd)
        ∗ (offs.view.loc c ↦[So]{qo} fo) ∗ semVal (c, SemLoc.dma sem) 0)
      ⊢ iprop((Flight EC c (.dma sem) ι N
                iprop((dst.view.loc c ↦[Sd]{fullShare} gd) ∗ (src.view.loc c ↦[Ss]{q} fs) ∗ (offs.view.loc c ↦[So]{qo} fo))
              -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  subst hSd
  iintro ⟨Hs, Hd, Ho, Hv⟩ Hk
  ihave Hs := (pointsTo_split_subset hSs).1 $$ Hs
  icases Hs with ⟨Hs, Hr⟩
  ihave Ho := (pointsTo_split_subset hSo).1 $$ Ho
  icases Ho with ⟨Ho, Hp⟩
  iapply (SparseCore.wp_indirectGatherLocal EC 𝒱 c bd (k := k) ι N hN hs hin) $$ [Hs Hd Ho Hv]
  · isplitl [Hs]; · iexact Hs
    isplitl [Hd]; · iexact Hd
    isplitl [Ho] <;> iassumption
  iintro HF
  iapply Hk
  iapply (Flight_mono EC c (D := iprop(((dst.view.loc c ↦[dst.view.set]{fullShare}
                        (dst.view.write (Elt F) fd (SparseCore.gatherPayload hg (src.view.read (Elt F) fs) (SparseCore.rows (offs.view.read (Elt F) fo) hn hin)) Finset.univ))
                  ∗ (src.view.loc c ↦[src.view.set]{q} fs) ∗ (offs.view.loc c ↦[offs.view.set]{qo} fo))
        ∗ ((src.view.loc c ↦[Ss \ src.view.set]{q} fs) ∗ (offs.view.loc c ↦[So \ offs.view.set]{qo} fo)))) (by
    iintro ⟨⟨Hd, Hs, Ho⟩, Hr, Hp⟩
    isplitl [Hd]
    · iapply (Entails.of_eq (pointsTo_congr hv)); iexact Hd
    isplitl [Hs Hr]
    · iapply (pointsTo_split_subset hSs).2
      isplitl [Hs] <;> iassumption
    · iapply (pointsTo_split_subset hSo).2
      isplitl [Ho] <;> iassumption))
  iapply (flight_frame EC c)
  isplitl [HF]; · iexact HF
  isplitl [Hr] <;> iassumption

/-- What a task owes, with some record of the waits done. -/
def OW (O : CellTallies nD τ sig Ix) : sProp 𝕄 := iprop(∃ W, owes c O W)

/-- The wait for a transfer in flight. -/
theorem wait_step [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} :
    iprop(Flight EC c (.dma sem) ι N D ∗ OW c O ∗ MayWaits c ι O)
      ⊢ iprop((iprop(D ∗ semVal (c, .dma sem) 0 ∗ OW c O) -∗ wp frame (wpE defs 𝒱 c bd) Set.univ (k ⟨⟩) Q)
          -∗ wp frame (wpE defs 𝒱 c bd) Set.univ (.op (.waitDma2 sem srcw dstw hsrc hdst) k) Q) := by
  unfold OW
  iintro ⟨HF, ⟨%W, HO⟩, Hmw⟩ Hk
  ihave Hmw' := (MayWaits.elim (SemLoc.dma sem)) $$ Hmw
  iapply (Transfers.wp_waitLocalO EC 𝒱 c bd (k := k) ι hN) $$ [HF HO Hmw']
  · isplitl [HF]; · iexact HF
    isplitl [HO] <;> iassumption
  iintro ⟨HD, Hv, HO⟩
  iapply Hk
  isplitl [HD]; · iexact HD
  isplitl [Hv]; · iexact Hv
  iexists _; iexact HO

end Cert.Proof.Steps
end
-- ==== Proof.IBase.lean ====
/-
  The program as the launch theorem sees it, the buffers and index sets a task works on, and the contents every
  buffer is meant to reach, as functions of four arrays: the table's rows `tb`, the list of row numbers `ix`, the
  relative positions `rp` and the bias table `pt`.
-/
module

public import proofs.«01_k».proof.Defs
public import proofs.«01_k».proof.Proof.Steps
public import Idealize.ShloMosaic.Lib.StableHlo.Run
public import Idealize.ShloMosaic.Lib.Pipeline.Kit
public import Idealize.ShloMosaic.Lib.Pipeline.ValueKit.Geometry
public import proofs.«01_k».proof.Proof.Gen.KernelIdeal

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The TensorCore call's staging cells' rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
/-- The transfers' counters. -/
abbrev EC : UEmb Counters (MT nD τ sig (HIx 1) (Elt F) ℕ UU ℕ) := countersEmb

/-! ## Indices from numbers -/

/-- The index of a one-, two- or three-dimensional array at given numbers (each taken into its extent). -/
def mk1 (n : ℕ) [NeZero n] (a : ℕ) : (⟨1, ![n]⟩ : Shape).Idx :=
  fun | ⟨0, _⟩ => Fin.ofNat n a | ⟨_ + 1, h⟩ => absurd h (Nat.not_lt.2 (Nat.le_add_left _ _))
def mk2 (n m : ℕ) [NeZero n] [NeZero m] (a b : ℕ) : (⟨2, ![n, m]⟩ : Shape).Idx :=
  fun | ⟨0, _⟩ => Fin.ofNat n a | ⟨1, _⟩ => Fin.ofNat m b | ⟨_ + 2, h⟩ => absurd h (Nat.not_lt.2 (Nat.le_add_left _ _))

theorem eq_mk1 {n : ℕ} [NeZero n] (j : (⟨1, ![n]⟩ : Shape).Idx) {a : ℕ} (h : (j 0).val = a) : j = mk1 n a := by
  funext k
  match k with
  | ⟨0, _⟩ =>
    apply Fin.ext
    show (j 0).val = a % n
    rw [Nat.mod_eq_of_lt (h ▸ (j 0).isLt)]; exact h
theorem eq_mk2 {n m : ℕ} [NeZero n] [NeZero m] (j : (⟨2, ![n, m]⟩ : Shape).Idx) {a b : ℕ} (h : (j 0).val = a) (h' : (j 1).val = b) :
    j = mk2 n m a b := by
  funext k
  match k with
  | ⟨0, _⟩ =>
    apply Fin.ext
    show (j 0).val = a % n
    rw [Nat.mod_eq_of_lt (h ▸ (j 0).isLt)]; exact h
  | ⟨1, _⟩ =>
    apply Fin.ext
    show (j 1).val = b % m
    rw [Nat.mod_eq_of_lt (h' ▸ (j 1).isLt)]; exact h'
theorem mk2_val0 {n m : ℕ} [NeZero n] [NeZero m] {a b : ℕ} (h : a < n) : (mk2 n m a b 0).val = a := Nat.mod_eq_of_lt h
theorem mk2_val1 {n m : ℕ} [NeZero n] [NeZero m] {a b : ℕ} (h : b < m) : (mk2 n m a b 1).val = b := Nat.mod_eq_of_lt h

/-! ## The contents the outputs reach -/

/-- Row `r` of the gathered array: the table's row the list names at `r`. -/
def gath (tb : S65536x128.Idx → Elt F .f32) (ix : S1x32768.Idx → BitVec 32) : S32768x128.Idx → Elt F .f32 :=
  fun j => tb (mk2 65536 128 (ix (mk2 1 32768 0 (j 0).val)).toNat (j 1).val)
/-- The bias array: the table's word at each relative position. -/
def bias (pt : S64.Idx → Elt F .f32) (rp : S4096x1024.Idx → BitVec 32) : S4096x1024.Idx → Elt F .f32 :=
  fun j => pt (mk1 64 (rp j).toNat)

/-! ## The buffers -/

abbrev rpLoc (d : Dev nD) : Loc nD τ sig := (SparseCore.T d).loc main_v0
abbrev ixLoc (d : Dev nD) : Loc nD τ sig := (SparseCore.T d).loc main_v16
abbrev tbLoc (d : Dev nD) : Loc nD τ sig := (SparseCore.T d).loc main_v17
abbrev ptLoc (d : Dev nD) : Loc nD τ sig := (SparseCore.T d).loc main_arg6
abbrev boLoc (d : Dev nD) : Loc nD τ sig := (SparseCore.T d).loc main_v18_0
abbrev goLoc (d : Dev nD) : Loc nD τ sig := (SparseCore.T d).loc main_v18_1

/-- Chunk `n` of the gathered array (128 rows), block `n` of the bias array (16 rows). -/
def gset (n : ℕ) : Finset S32768x128.Idx := Finset.univ.filter fun j => (j 0).val / 128 = n
def bset (n : ℕ) : Finset S4096x1024.Idx := Finset.univ.filter fun j => (j 0).val / 16 = n
/-- Half `b` of the two-deep row buffer, of the two-deep block buffers. -/
def gsl (b : ℕ) : Finset S2x128x128.Idx := Finset.univ.filter fun j => (j 0).val = b
def bsl (b : ℕ) : Finset S2x16x1024.Idx := Finset.univ.filter fun j => (j 0).val = b

theorem mem_gset {n : ℕ} {j : S32768x128.Idx} : j ∈ gset n ↔ (j 0).val / 128 = n := by simp [gset]
theorem mem_bset {n : ℕ} {j : S4096x1024.Idx} : j ∈ bset n ↔ (j 0).val / 16 = n := by simp [bset]
theorem mem_gsl {n : ℕ} {j : S2x128x128.Idx} : j ∈ gsl n ↔ (j 0).val = n := by simp [gsl]
theorem mem_bsl {n : ℕ} {j : S2x16x1024.Idx} : j ∈ bsl n ↔ (j 0).val = n := by simp [bsl]

/-! ## A task's thread -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

theorem L0_lt (L : grid0.Coords) : (L 0).val < 2 := (L 0).isLt
theorem L1_lt (L : grid0.Coords) : (L 1).val < 16 := (L 1).isLt

/-- The number of the task in the gather (which 1024 rows), in the bias (which 128 rows). -/
def wg (L : grid0.Coords) : ℕ := 2 * (L 1).val + (L 0).val
def wb (L : grid0.Coords) : ℕ := (L 1).val + 16 * (L 0).val

theorem wg_lt (L : grid0.Coords) : wg L < 32 := by have := L0_lt L; have := L1_lt L; unfold wg; omega
theorem wb_lt (L : grid0.Coords) : wb L < 32 := by have := L0_lt L; have := L1_lt L; unfold wb; omega

abbrev l8Loc (d : Dev nD) (L : grid0.Coords) : Loc nD τ sig := (VT d L).loc cc0_scratch0
abbrev l9Loc (d : Dev nD) (L : grid0.Coords) : Loc nD τ sig := (VT d L).loc cc0_scratch1
abbrev l10Loc (d : Dev nD) (L : grid0.Coords) : Loc nD τ sig := (VT d L).loc cc0_scratch2
abbrev biLoc (d : Dev nD) (L : grid0.Coords) : Loc nD τ sig := (VT d L).loc cc0_scoped2
abbrev bvLoc (d : Dev nD) (L : grid0.Coords) : Loc nD τ sig := (VT d L).loc cc0_scoped4

/-- The list a task stages: its 1024 words. -/
def lst (L : grid0.Coords) (ix : S1x32768.Idx → BitVec 32) : S1024.Idx → BitVec 32 :=
  fun j => ix (mk2 1 32768 0 (1024 * wg L + (j 0).val))
/-- A half of the row buffer holding chunk `k` of the task. -/
def gslot (L : grid0.Coords) (tb : S65536x128.Idx → Elt F .f32) (ix : S1x32768.Idx → BitVec 32) (k : ℕ) : S2x128x128.Idx → Elt F .f32 :=
  fun j => gath tb ix (mk2 32768 128 (128 * (8 * wg L + k) + (j 1).val) (j 2).val)
/-- A half of the block buffers holding block `t` of the task: the words, the bias. -/
def islot (L : grid0.Coords) (rp : S4096x1024.Idx → BitVec 32) (t : ℕ) : S2x16x1024.Idx → BitVec 32 :=
  fun j => rp (mk2 4096 1024 (16 * (8 * wb L + t) + (j 1).val) (j 2).val)
def oslot (L : grid0.Coords) (pt : S64.Idx → Elt F .f32) (rp : S4096x1024.Idx → BitVec 32) (t : ℕ) : S2x16x1024.Idx → Elt F .f32 :=
  fun j => bias pt rp (mk2 4096 1024 (16 * (8 * wb L + t) + (j 1).val) (j 2).val)

/-! ## The windows of the body -/

/-- Half `b` of the row buffer as the body slices it. -/
abbrev gslotM (o : Fin 3 → ℕ) (h : ∀ a, o a + S1x128x128.size a ≤ S2x128x128.size a) : Memref sig .scVector .vmem S128x128 .f32 :=
  ((Memref.whole cc0_scratch2 : Memref sig .scVector .vmem S2x128x128 .f32).slice (Rect.unit (s := S2x128x128) o S1x128x128.size h) (fun _ => rfl)).squeeze S128x128 squeezes_S1x128x128_S128x128
/-- A chunk of the gathered array. -/
abbrev gchunkM (o : Fin 2 → ℕ) (h : ∀ a, o a + S128x128.size a ≤ S32768x128.size a) : Memref sig .scVector .hbm S128x128 .f32 :=
  (Memref.whole main_v18_1_scv : Memref sig .scVector .hbm S32768x128 .f32).slice (Rect.unit (s := S32768x128) o S128x128.size h) (fun _ => rfl)
/-- A window of the staged list. -/
abbrev glistM (o : Fin 1 → ℕ) (h : ∀ a, o a + S128.size a ≤ S1024.size a) : Memref sig .scVector .vmem S128 .i32 :=
  (Memref.whole cc0_scratch1 : Memref sig .scVector .vmem S1024 .i32).slice (Rect.unit (s := S1024) o S128.size h) (fun _ => rfl)
/-- The whole table as the body slices it. -/
abbrev gtblM : Memref sig .scVector .hbm S65536x128 .f32 :=
  (Memref.whole main_v17_scv : Memref sig .scVector .hbm S65536x128 .f32).slice (Rect.unit (s := S65536x128) ![0, 0] S65536x128.size inb_S65536x128_S65536x128_0_0) (fun _ => rfl)
/-- The task's words of the list of row numbers. -/
abbrev gidxM (L : grid0.Coords) : Memref sig .scVector .hbm S1024 .i32 :=
  ((Memref.whole main_v16_scv : Memref sig .scVector .hbm S1x32768 .i32).slice (Rect.unit (s := S1x32768) (k0_off1 L) S1x1024.size (k0_off1_inb L)) (fun _ => rfl)).squeeze S1024 squeezes_S1x1024_S1024
/-- Half `b` of the buffer of word blocks, of bias blocks. -/
abbrev islotM (o : Fin 3 → ℕ) (h : ∀ a, o a + S1x16x1024.size a ≤ S2x16x1024.size a) : Memref sig .scVector .vmem S16x1024 .i32 :=
  ((Memref.whole cc0_scoped2 : Memref sig .scVector .vmem S2x16x1024 .i32).slice (Rect.unit (s := S2x16x1024) o S1x16x1024.size h) (fun _ => rfl)).squeeze S16x1024 squeezes_S1x16x1024_S16x1024
abbrev oslotM (o : Fin 3 → ℕ) (h : ∀ a, o a + S1x16x1024.size a ≤ S2x16x1024.size a) : Memref sig .scVector .vmem S16x1024 .f32 :=
  ((Memref.whole cc0_scoped4 : Memref sig .scVector .vmem S2x16x1024 .f32).slice (Rect.unit (s := S2x16x1024) o S1x16x1024.size h) (fun _ => rfl)).squeeze S16x1024 squeezes_S1x16x1024_S16x1024
/-- A block of the relative positions, of the bias array. -/
abbrev iblockM (o : Fin 2 → ℕ) (h : ∀ a, o a + S16x1024.size a ≤ S4096x1024.size a) : Memref sig .scVector .hbm S16x1024 .i32 :=
  (Memref.whole main_v0_scv : Memref sig .scVector .hbm S4096x1024 .i32).slice (Rect.unit (s := S4096x1024) o S16x1024.size h) (fun _ => rfl)
abbrev oblockM (o : Fin 2 → ℕ) (h : ∀ a, o a + S16x1024.size a ≤ S4096x1024.size a) : Memref sig .scVector .hbm S16x1024 .f32 :=
  (Memref.whole main_v18_0_scv : Memref sig .scVector .hbm S4096x1024 .f32).slice (Rect.unit (s := S4096x1024) o S16x1024.size h) (fun _ => rfl)

/-! ### Where a window's index falls -/

theorem gslotM_emb {b : ℕ} {o : Fin 3 → ℕ} (ho : o = ![b, 0, 0]) (h) (j : S128x128.Idx) :
    ((((gslotM o h).view.emb j : S2x128x128.Idx) 0).val = b) ∧ ((((gslotM o h).view.emb j : S2x128x128.Idx) 1).val = (j 0).val)
      ∧ ((((gslotM o h).view.emb j : S2x128x128.Idx) 2).val = (j 1).val) := by
  subst ho
  have e : (gslotM ![b, 0, 0] h).view.emb j = (Rect.unit (s := S2x128x128) ![b, 0, 0] S1x128x128.size h).emb (Shape.reshapeEquiv squeezes_S1x128x128_S128x128.numel_eq j) := rfl
  rw [e, Shape.reshapeEquiv_cons_one]
  refine ⟨?_, ?_, ?_⟩ <;> rw [ValueKit.rect_emb_unit_val]
  · show b + 0 = b; omega
  · show 0 + (j 0).val = _; omega
  · show 0 + (j 1).val = _; omega

theorem gslotM_set {b : ℕ} {o : Fin 3 → ℕ} (ho : o = ![b, 0, 0]) (h) : (gslotM o h).view.set = gsl b := by
  subst ho
  show (((View.whole cc0_scratch2).slice (Rect.unit (s := S2x128x128) ![b, 0, 0] S1x128x128.size h)).reshape S128x128 _).set = _
  rw [View.set_reshape, View.set_slice_whole]
  ext i
  rw [mem_gsl]
  refine Iff.trans Rect.mem_set_unit ?_
  have h1 : (i 1).val < 128 := (i 1).isLt
  have h2 : (i 2).val < 128 := (i 2).isLt
  constructor
  · intro H; have := H 0; change b ≤ (i 0).val ∧ (i 0).val < b + 1 at this; omega
  · intro H a
    match a with
    | 0 => show b ≤ (i 0).val ∧ (i 0).val < b + 1; omega
    | 1 => show 0 ≤ (i 1).val ∧ (i 1).val < 0 + 128; omega
    | 2 => show 0 ≤ (i 2).val ∧ (i 2).val < 0 + 128; omega

theorem islotM_emb {b : ℕ} {o : Fin 3 → ℕ} (ho : o = ![b, 0, 0]) (h) (j : S16x1024.Idx) :
    ((((islotM o h).view.emb j : S2x16x1024.Idx) 0).val = b) ∧ ((((islotM o h).view.emb j : S2x16x1024.Idx) 1).val = (j 0).val)
      ∧ ((((islotM o h).view.emb j : S2x16x1024.Idx) 2).val = (j 1).val) := by
  subst ho
  have e : (islotM ![b, 0, 0] h).view.emb j = (Rect.unit (s := S2x16x1024) ![b, 0, 0] S1x16x1024.size h).emb (Shape.reshapeEquiv squeezes_S1x16x1024_S16x1024.numel_eq j) := rfl
  rw [e, Shape.reshapeEquiv_cons_one]
  refine ⟨?_, ?_, ?_⟩ <;> rw [ValueKit.rect_emb_unit_val]
  · show b + 0 = b; omega
  · show 0 + (j 0).val = _; omega
  · show 0 + (j 1).val = _; omega

theorem islotM_set {b : ℕ} {o : Fin 3 → ℕ} (ho : o = ![b, 0, 0]) (h) : (islotM o h).view.set = bsl b := by
  subst ho
  show (((View.whole cc0_scoped2).slice (Rect.unit (s := S2x16x1024) ![b, 0, 0] S1x16x1024.size h)).reshape S16x1024 _).set = _
  rw [View.set_reshape, View.set_slice_whole]
  ext i
  rw [mem_bsl]
  refine Iff.trans Rect.mem_set_unit ?_
  have h1 : (i 1).val < 16 := (i 1).isLt
  have h2 : (i 2).val < 1024 := (i 2).isLt
  constructor
  · intro H; have := H 0; change b ≤ (i 0).val ∧ (i 0).val < b + 1 at this; omega
  · intro H a
    match a with
    | 0 => show b ≤ (i 0).val ∧ (i 0).val < b + 1; omega
    | 1 => show 0 ≤ (i 1).val ∧ (i 1).val < 0 + 16; omega
    | 2 => show 0 ≤ (i 2).val ∧ (i 2).val < 0 + 1024; omega

theorem oslotM_emb {b : ℕ} {o : Fin 3 → ℕ} (ho : o = ![b, 0, 0]) (h) (j : S16x1024.Idx) :
    ((((oslotM o h).view.emb j : S2x16x1024.Idx) 0).val = b) ∧ ((((oslotM o h).view.emb j : S2x16x1024.Idx) 1).val = (j 0).val)
      ∧ ((((oslotM o h).view.emb j : S2x16x1024.Idx) 2).val = (j 1).val) := by
  subst ho
  have e : (oslotM ![b, 0, 0] h).view.emb j = (Rect.unit (s := S2x16x1024) ![b, 0, 0] S1x16x1024.size h).emb (Shape.reshapeEquiv squeezes_S1x16x1024_S16x1024.numel_eq j) := rfl
  rw [e, Shape.reshapeEquiv_cons_one]
  refine ⟨?_, ?_, ?_⟩ <;> rw [ValueKit.rect_emb_unit_val]
  · show b + 0 = b; omega
  · show 0 + (j 0).val = _; omega
  · show 0 + (j 1).val = _; omega

theorem oslotM_set {b : ℕ} {o : Fin 3 → ℕ} (ho : o = ![b, 0, 0]) (h) : (oslotM o h).view.set = bsl b := by
  subst ho
  show (((View.whole cc0_scoped4).slice (Rect.unit (s := S2x16x1024) ![b, 0, 0] S1x16x1024.size h)).reshape S16x1024 _).set = _
  rw [View.set_reshape, View.set_slice_whole]
  ext i
  rw [mem_bsl]
  refine Iff.trans Rect.mem_set_unit ?_
  have h1 : (i 1).val < 16 := (i 1).isLt
  have h2 : (i 2).val < 1024 := (i 2).isLt
  constructor
  · intro H; have := H 0; change b ≤ (i 0).val ∧ (i 0).val < b + 1 at this; omega
  · intro H a
    match a with
    | 0 => show b ≤ (i 0).val ∧ (i 0).val < b + 1; omega
    | 1 => show 0 ≤ (i 1).val ∧ (i 1).val < 0 + 16; omega
    | 2 => show 0 ≤ (i 2).val ∧ (i 2).val < 0 + 1024; omega

theorem gchunkM_emb {n : ℕ} {o : Fin 2 → ℕ} (ho : o = ![128 * n, 0]) (h) (j : S128x128.Idx) :
    ((((gchunkM o h).view.emb j : S32768x128.Idx) 0).val = 128 * n + (j 0).val) ∧ ((((gchunkM o h).view.emb j : S32768x128.Idx) 1).val = (j 1).val) := by
  subst ho
  have e : (gchunkM ![128 * n, 0] h).view.emb j = (Rect.unit (s := S32768x128) ![128 * n, 0] S128x128.size h).emb j := rfl
  rw [e]
  refine ⟨?_, ?_⟩ <;> rw [ValueKit.rect_emb_unit_val]
  · rfl
  · show 0 + (j 1).val = _; omega

theorem gchunkM_set {n : ℕ} {o : Fin 2 → ℕ} (ho : o = ![128 * n, 0]) (h) : (gchunkM o h).view.set = gset n := by
  subst ho
  show ((View.whole main_v18_1_scv).slice (Rect.unit (s := S32768x128) ![128 * n, 0] S128x128.size h)).set = _
  rw [View.set_slice_whole]
  ext i
  rw [mem_gset]
  refine Iff.trans Rect.mem_set_unit ?_
  have h1 : (i 1).val < 128 := (i 1).isLt
  constructor
  · intro H; have := H 0; change 128 * n ≤ (i 0).val ∧ (i 0).val < 128 * n + 128 at this; omega
  · intro H a
    match a with
    | 0 => show 128 * n ≤ (i 0).val ∧ (i 0).val < 128 * n + 128; omega
    | 1 => show 0 ≤ (i 1).val ∧ (i 1).val < 0 + 128; omega

theorem iblockM_emb {n : ℕ} {o : Fin 2 → ℕ} (ho : o = ![16 * n, 0]) (h) (j : S16x1024.Idx) :
    ((((iblockM o h).view.emb j : S4096x1024.Idx) 0).val = 16 * n + (j 0).val) ∧ ((((iblockM o h).view.emb j : S4096x1024.Idx) 1).val = (j 1).val) := by
  subst ho
  have e : (iblockM ![16 * n, 0] h).view.emb j = (Rect.unit (s := S4096x1024) ![16 * n, 0] S16x1024.size h).emb j := rfl
  rw [e]
  refine ⟨?_, ?_⟩ <;> rw [ValueKit.rect_emb_unit_val]
  · rfl
  · show 0 + (j 1).val = _; omega

theorem iblockM_set {n : ℕ} {o : Fin 2 → ℕ} (ho : o = ![16 * n, 0]) (h) : (iblockM o h).view.set = bset n := by
  subst ho
  show ((View.whole main_v0_scv).slice (Rect.unit (s := S4096x1024) ![16 * n, 0] S16x1024.size h)).set = _
  rw [View.set_slice_whole]
  ext i
  rw [mem_bset]
  refine Iff.trans Rect.mem_set_unit ?_
  have h1 : (i 1).val < 1024 := (i 1).isLt
  constructor
  · intro H; have := H 0; change 16 * n ≤ (i 0).val ∧ (i 0).val < 16 * n + 16 at this; omega
  · intro H a
    match a with
    | 0 => show 16 * n ≤ (i 0).val ∧ (i 0).val < 16 * n + 16; omega
    | 1 => show 0 ≤ (i 1).val ∧ (i 1).val < 0 + 1024; omega

theorem oblockM_emb {n : ℕ} {o : Fin 2 → ℕ} (ho : o = ![16 * n, 0]) (h) (j : S16x1024.Idx) :
    ((((oblockM o h).view.emb j : S4096x1024.Idx) 0).val = 16 * n + (j 0).val) ∧ ((((oblockM o h).view.emb j : S4096x1024.Idx) 1).val = (j 1).val) := by
  subst ho
  have e : (oblockM ![16 * n, 0] h).view.emb j = (Rect.unit (s := S4096x1024) ![16 * n, 0] S16x1024.size h).emb j := rfl
  rw [e]
  refine ⟨?_, ?_⟩ <;> rw [ValueKit.rect_emb_unit_val]
  · rfl
  · show 0 + (j 1).val = _; omega

theorem oblockM_set {n : ℕ} {o : Fin 2 → ℕ} (ho : o = ![16 * n, 0]) (h) : (oblockM o h).view.set = bset n := by
  subst ho
  show ((View.whole main_v18_0_scv).slice (Rect.unit (s := S4096x1024) ![16 * n, 0] S16x1024.size h)).set = _
  rw [View.set_slice_whole]
  ext i
  rw [mem_bset]
  refine Iff.trans Rect.mem_set_unit ?_
  have h1 : (i 1).val < 1024 := (i 1).isLt
  constructor
  · intro H; have := H 0; change 16 * n ≤ (i 0).val ∧ (i 0).val < 16 * n + 16 at this; omega
  · intro H a
    match a with
    | 0 => show 16 * n ≤ (i 0).val ∧ (i 0).val < 16 * n + 16; omega
    | 1 => show 0 ≤ (i 1).val ∧ (i 1).val < 0 + 1024; omega

theorem glistM_emb {n : ℕ} {o : Fin 1 → ℕ} (ho : o = ![128 * n]) (h) (j : S128.Idx) :
    (((glistM o h).view.emb j : S1024.Idx) 0).val = 128 * n + (j 0).val := by
  subst ho
  have e : (glistM ![128 * n] h).view.emb j = (Rect.unit (s := S1024) ![128 * n] S128.size h).emb j := rfl
  rw [e, ValueKit.rect_emb_unit_val]
  rfl

theorem gtblM_emb (j : S65536x128.Idx) : (gtblM.view.emb j : S65536x128.Idx) = j := by
  have e : gtblM.view.emb j = (Rect.unit (s := S65536x128) ![0, 0] S65536x128.size inb_S65536x128_S65536x128_0_0).emb j := rfl
  rw [e]
  funext a
  apply Fin.ext
  rw [ValueKit.rect_emb_unit_val]
  match a with
  | 0 => show 0 + (j 0).val = _; omega
  | 1 => show 0 + (j 1).val = _; omega

theorem gidxM_emb (L : grid0.Coords) (j : S1024.Idx) :
    (((gidxM L).view.emb j : S1x32768.Idx) 0).val = 0 ∧ (((gidxM L).view.emb j : S1x32768.Idx) 1).val = 1024 * wg L + (j 0).val := by
  have e : (gidxM L).view.emb j = (Rect.unit (s := S1x32768) (k0_off1 L) S1x1024.size (k0_off1_inb L)).emb (Shape.reshapeEquiv squeezes_S1x1024_S1024.numel_eq j) := rfl
  rw [e, Shape.reshapeEquiv_cons_one]
  have h0 : k0_off1 L 0 = 0 := congrFun (k0_off1_eq L) 0
  have h1 : k0_off1 L 1 = 2048 * (L 1).val + 1024 * (L 0).val := congrFun (k0_off1_eq L) 1
  refine ⟨?_, ?_⟩ <;> rw [ValueKit.rect_emb_unit_val]
  · show k0_off1 L 0 + 0 = 0; omega
  · show k0_off1 L 1 + (j 0).val = _
    unfold wg; omega

end Cert.Proof.IT
end
-- ==== Proof.IGather.lean ====
/-
  The gather's operations, one rule each: the two staging copies, the indirect gather of a chunk into a half of the row
  buffer, the copy of a half out to its chunk, and their waits. Every rule is over the contents of Proof/KBase.lean.
-/
module

public import proofs.«01_k».proof.Proof.IBase

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

variable (d : Dev nD) (L : grid0.Coords)
variable (tb : S65536x128.Idx → Elt F .f32) (ix : S1x32768.Idx → BitVec 32)
variable (rp : S4096x1024.Idx → BitVec 32) (pt : S64.Idx → Elt F .f32)
variable {α : Type} {Q : α → sProp (MT nD τ sig (HIx 1) (Elt F) ℕ UU ℕ)}

/-- A program of the task run by the certificate. -/
abbrev wpT (p : Prog (TpuEff nD τ sig (Elt F) Λ₀ (VT d L).2) α) (Q : α → sProp 𝕄) : sProp 𝕄 :=
  wp frame (wpE (defs₀ (F := F)) 𝒱₀ (VT d L) none) Set.univ p Q

/-- Cell `sm` of the task at zero. -/
abbrev c0 (sm : DmaSem sig) : sProp 𝕄 := semVal (VT d L, SemLoc.dma sm) 0

/-- Share `b` of the table, of the staged list; half `b` of the row buffer at some contents, at chunk `k`'s. -/
abbrev TB (q : PosShare TreeShare) (b : ℕ) : sProp 𝕄 := tbLoc d ↦{Transfers.shareTokN q b} (tb : Buf (Elt F) (tbLoc d))
abbrev L9 (b : ℕ) : sProp 𝕄 := l9Loc d L ↦{Transfers.shareTokN fullShare b} (lst L ix : Buf (Elt F) (l9Loc d L))
abbrev SLf (b : ℕ) (f : Buf (Elt F) (l10Loc d L)) : sProp 𝕄 := l10Loc d L ↦[gsl b]{fullShare} f
abbrev SLk (b k : ℕ) : sProp 𝕄 := l10Loc d L ↦[gsl b]{fullShare} (gslot L tb ix k : Buf (Elt F) (l10Loc d L))
/-- Chunk `k` of the task's rows at some contents, at the gathered ones. -/
abbrev GOf (k : ℕ) (f : Buf (Elt F) (goLoc d)) : sProp 𝕄 := goLoc d ↦[gset (8 * wg L + k)]{fullShare} f
abbrev GOk (k : ℕ) : sProp 𝕄 := goLoc d ↦[gset (8 * wg L + k)]{fullShare} (gath tb ix : Buf (Elt F) (goLoc d))

/-- The bytes a chunk's copy credits. -/
abbrev nG : ℕ := (gslotM ![0, 0, 0] inb_S2x128x128_S1x128x128_0_0_0).view.dmaCredit
abbrev nO : ℕ := (gchunkM (k0_off2 L 0#32) (k0_off2_inb L 0)).view.dmaCredit

/-- The gather of chunk `k` into half `b` in flight on cell `sm`; the copy of half `b` out to chunk `k`. -/
abbrev GF (q : PosShare TreeShare) (sm : DmaSem sig) (b k : ℕ) : sProp 𝕄 :=
  Flight EC (VT d L) (.dma sm) (default : HIx 1) nG iprop(SLk d L tb ix b k ∗ TB d tb q b ∗ L9 d L ix b)
abbrev OF (sm : DmaSem sig) (b k : ℕ) : sProp 𝕄 :=
  Flight EC (VT d L) (.dma sm) (default : HIx 1) (nO L) iprop(GOk d L tb ix k ∗ SLk d L tb ix b k)

theorem gather_issue (hix : ∀ j, (ix j).toNat < 65536) (q : PosShare TreeShare) (sm : DmaSem sig) (b k : ℕ) (hk : k < 8)
    {o : Fin 3 → ℕ} (ho : o = ![b, 0, 0]) (h) {o' : Fin 1 → ℕ} (ho' : o' = ![128 * k]) (h')
    {kk : PUnit → Prog (TpuEff nD τ sig (Elt F) Λ₀ (VT d L).2) α} (f : Buf (Elt F) (l10Loc d L)) {h1 h2 h3 h4 h5 h6} :
    iprop(SLf d L b f ∗ TB d tb q b ∗ L9 d L ix b ∗ c0 d L sm)
      ⊢ iprop((GF d L tb ix q sm b k -∗ wpT d L (kk ⟨⟩) Q)
        -∗ wpT d L (SparseCore.enqueueIndirectGather h1 gtblM (gslotM o h) gathers_S65536x128_S128x128 (glistM o' h') h2 sm h3 h4 h5 h6 >>= kk) Q) := by
  have hin : ∀ x, ((glistM o' h').view.read (Elt F) (lst L ix : Buf (Elt F) (l9Loc d L)) x).toNat < S65536x128.size gathers_S65536x128_S128x128.axis := by
    intro x
    exact hix _
  have hv : ∀ i ∈ gsl b, (gslotM o h).view.write (Elt F) f (SparseCore.gatherPayload gathers_S65536x128_S128x128 (gtblM.view.read (Elt F) tb)
      (SparseCore.rows ((glistM o' h').view.read (Elt F) (lst L ix : Buf (Elt F) (l9Loc d L))) h2 hin)) Finset.univ i = gslot L tb ix k i := by
    intro i hi
    rw [← gslotM_set ho h] at hi
    obtain ⟨j, -, rfl⟩ := Finset.mem_map.mp hi
    have hj := gslotM_emb ho h j
    refine (View.write_emb_of_mem _ _ (Finset.mem_univ j)).trans ?_
    set r := SparseCore.rows ((glistM o' h').view.read (Elt F) (lst L ix : Buf (Elt F) (l9Loc d L))) h2 hin with hr
    set w : ℕ := 128 * (8 * wg L + k) + (j 0).val with hw
    have hj0 : (j 0).val < 128 := (j 0).isLt
    have hwg := wg_lt L
    have hrow : (r (j 0)).val = (ix (mk2 1 32768 0 w)).toNat := by
      have hy : ((S128.rowMajor.symm ((j 0).cast h2.symm)) 0).val = (j 0).val := by
        have := congrArg Fin.val (S128.rowMajor.apply_symm_apply ((j 0).cast h2.symm))
        rw [Shape.rowMajor_val_one] at this
        exact this
      have he := glistM_emb ho' h' (S128.rowMajor.symm ((j 0).cast h2.symm))
      show (ix (mk2 1 32768 0 (1024 * wg L + (((glistM o' h').view.emb (S128.rowMajor.symm ((j 0).cast h2.symm)) : S1024.Idx) 0).val))).toNat = _
      rw [he, hy, hw]
      congr 3; omega
    show tb (gtblM.view.emb (gathers_S65536x128_S128x128.idx r j)) = tb (mk2 65536 128 (ix (mk2 1 32768 0 ((mk2 32768 128 _ _ : S32768x128.Idx) 0).val)).toNat ((mk2 32768 128 _ _ : S32768x128.Idx) 1).val)
    rw [gtblM_emb, hj.2.1, hj.2.2, ← hw, mk2_val0 (by omega), mk2_val1 (m := 128) (show (j 1).val < 128 from (j 1).isLt)]
    congr 1
    refine eq_mk2 _ ?_ ?_
    · rw [← hrow]
      exact congrArg Fin.val (gathers_S65536x128_S128x128.idx_axis r j)
    · exact (gathers_S65536x128_S128x128.idx_of_ne r j 1 (by decide))
  iintro ⟨Hs, Ht, Hl, Hv⟩ Hk
  iapply (gather_step EC 𝒱₀ (VT d L) none (k := kk) (src := gtblM) (dst := gslotM o h) (offs := glistM o' h') (q := Transfers.shareTokN q b) (fs := tb)
    (fo := (lst L ix : Buf (Elt F) (l9Loc d L))) (Ss := Finset.univ) (So := Finset.univ) (Sd := gsl b)
    (gslot L tb ix k) (default : HIx 1) nG
    (SparseCore.sum_rowCredit_eq_dmaCredit (gslotM o h) _ fun _ => rfl) (by decide) hin (Finset.subset_univ _) (Finset.subset_univ _) (gslotM_set ho h) hv)
    $$ [Hs Ht Hl Hv]
  · isplitl [Ht]; · iexact Ht
    isplitl [Hs]; · iexact Hs
    isplitl [Hl] <;> iassumption
  iintro HF
  iapply Hk
  iexact HF

theorem gather_wait (q : PosShare TreeShare) (sm : DmaSem sig) (b k : ℕ) (O : CellTallies nD τ sig (HIx 1))
    {o : Fin 3 → ℕ} (h) {kk : PUnit → Prog (TpuEff nD τ sig (Elt F) Λ₀ (VT d L).2) α} {h1 h2} :
    iprop(GF d L tb ix q sm b k ∗ OW (VT d L) O ∗ MayWaits (VT d L) (default : HIx 1) O)
      ⊢ iprop((iprop((SLk d L tb ix b k ∗ TB d tb q b ∗ L9 d L ix b) ∗ c0 d L sm ∗ OW (VT d L) O) -∗ wpT d L (kk ⟨⟩) Q)
        -∗ wpT d L (SparseCore.waitIndirectGather sm gtblM (gslotM o h) h1 h2 >>= kk) Q) :=
  wait_step EC 𝒱₀ (VT d L) none (k := kk) (sem := sm) (srcw := gtblM) (dstw := gslotM o h) (hsrc := h1) (hdst := h2) (default : HIx 1) (N := nG) rfl

theorem out_issue (sm : DmaSem sig) (b k : ℕ) (hk : k < 8)
    {o : Fin 3 → ℕ} (ho : o = ![b, 0, 0]) (h) {o' : Fin 2 → ℕ} (ho' : o' = ![128 * (8 * wg L + k), 0]) (h')
    {kk : PUnit → Prog (TpuEff nD τ sig (Elt F) Λ₀ (VT d L).2) α} (f : Buf (Elt F) (goLoc d)) {h1 h2 h3} :
    iprop(SLk d L tb ix b k ∗ GOf d L k f ∗ c0 d L sm)
      ⊢ iprop((OF d L tb ix sm b k -∗ wpT d L (kk ⟨⟩) Q)
        -∗ wpT d L (Prog.lift (.enqueueDma (gslotM o h) (.here (gchunkM o' h')) (.dma sm) h1 h2 h3) >>= kk) Q) := by
  have hwg := wg_lt L
  have hv : ∀ i ∈ gset (8 * wg L + k), (gchunkM o' h').view.write (Elt F) f ((gslotM o h).view.read (Elt F) (gslot L tb ix k : Buf (Elt F) (l10Loc d L))) Finset.univ i
      = (gath tb ix : Buf (Elt F) (goLoc d)) i := by
    intro i hi
    rw [← gchunkM_set ho' h'] at hi
    obtain ⟨j, -, rfl⟩ := Finset.mem_map.mp hi
    have hj := gslotM_emb ho h j
    have hj' := gchunkM_emb ho' h' j
    refine (View.write_emb_of_mem _ _ (Finset.mem_univ j)).trans ?_
    have hj0 : (j 0).val < 128 := (j 0).isLt
    show gath tb ix (mk2 32768 128 (128 * (8 * wg L + k) + (((gslotM o h).view.emb j : S2x128x128.Idx) 1).val) (((gslotM o h).view.emb j : S2x128x128.Idx) 2).val) = _
    congr 1
    rw [hj.2.1, hj.2.2]
    exact (eq_mk2 _ hj'.1 hj'.2).symm
  iintro ⟨Hs, Hg, Hv⟩ Hk
  iapply (dma_step EC 𝒱₀ (VT d L) none (k := kk) (src := gslotM o h) (dst := gchunkM o' h') (q := fullShare)
    (fs := (gslot L tb ix k : Buf (Elt F) (l10Loc d L))) (Ss := gsl b) (Sd := gset (8 * wg L + k)) (fd := f)
    (gath tb ix : Buf (Elt F) (goLoc d)) (default : HIx 1) (nO L) rfl (View.dmaCredit_pos _ (by decide))
    (gslotM_set ho h).subset (gchunkM_set ho' h').subset hv) $$ [Hs Hg Hv]
  · isplitl [Hs]; · iexact Hs
    isplitl [Hg] <;> iassumption
  iintro HF
  iapply Hk
  iexact HF

theorem out_wait (sm : DmaSem sig) (b k : ℕ) (O : CellTallies nD τ sig (HIx 1))
    {o : Fin 3 → ℕ} (h) {o' : Fin 2 → ℕ} (h') {kk : PUnit → Prog (TpuEff nD τ sig (Elt F) Λ₀ (VT d L).2) α} {h1 h2} :
    iprop(OF d L tb ix sm b k ∗ OW (VT d L) O ∗ MayWaits (VT d L) (default : HIx 1) O)
      ⊢ iprop((iprop((GOk d L tb ix k ∗ SLk d L tb ix b k) ∗ c0 d L sm ∗ OW (VT d L) O) -∗ wpT d L (kk ⟨⟩) Q)
        -∗ wpT d L (Prog.lift (.waitDma2 sm (gslotM o h) (gchunkM o' h') h1 h2) >>= kk) Q) :=
  wait_step EC 𝒱₀ (VT d L) none (k := kk) (sem := sm) (srcw := gslotM o h) (dstw := gchunkM o' h') (hsrc := h1) (hdst := h2) (default : HIx 1) (N := nO L) rfl

/-! ## The staging copies -/

abbrev ptM : Memref sig .scVector .hbm S64 .f32 := Memref.whole main_arg6_scv
abbrev l8M : Memref sig .scVector .vmem S64 .f32 := Memref.whole cc0_scratch0
abbrev l9M : Memref sig .scVector .vmem S1024 .i32 := Memref.whole cc0_scratch1

theorem stage_table (q : PosShare TreeShare) (sm : DmaSem sig) (O : CellTallies nD τ sig (HIx 1))
    {kk : PUnit → Prog (TpuEff nD τ sig (Elt F) Λ₀ (VT d L).2) α} (f : Buf (Elt F) (l8Loc d L)) {h1 h2 h3 h4 h5} :
    iprop((ptLoc d ↦{q} (pt : Buf (Elt F) (ptLoc d))) ∗ (l8Loc d L ↦{fullShare} f) ∗ c0 d L sm ∗ OW (VT d L) O ∗ MayWaits (VT d L) (default : HIx 1) O)
      ⊢ iprop((iprop((ptLoc d ↦{q} (pt : Buf (Elt F) (ptLoc d))) ∗ (l8Loc d L ↦{fullShare} (pt : Buf (Elt F) (l8Loc d L))) ∗ c0 d L sm ∗ OW (VT d L) O) -∗ wpT d L (kk ⟨⟩) Q)
        -∗ wpT d L (Prog.lift (.enqueueDma ptM (.here l8M) (.dma sm) h1 h2 h3) >>= fun _ =>
            Prog.lift (.waitDma2 sm ptM l8M h4 h5) >>= kk) Q) := by
  iintro ⟨Hp, Hl, Hv, HO, Hmw⟩ Hk
  iapply (dma_step EC 𝒱₀ (VT d L) none (k := fun _ => Prog.lift (.waitDma2 sm ptM l8M h4 h5) >>= kk) (src := ptM) (dst := l8M) (q := q)
    (fs := (pt : Buf (Elt F) (ptLoc d))) (Ss := Finset.univ) (Sd := Finset.univ) (fd := f)
    (pt : Buf (Elt F) (l8Loc d L)) (default : HIx 1) l8M.view.dmaCredit rfl (View.dmaCredit_pos _ (by decide))
    (Finset.subset_univ _) (Finset.subset_univ _) (fun i _ => by
      have := View.write_emb_of_mem (v := l8M.view) (Val := Elt F) f ((ptM.view.read (Elt F) (pt : Buf (Elt F) (ptLoc d)))) (Finset.mem_univ i)
      exact this)) $$ [Hp Hl Hv]
  · isplitl [Hp]; · iexact Hp
    isplitl [Hl] <;> iassumption
  iintro HF
  iapply (wait_step EC 𝒱₀ (VT d L) none (k := kk) (sem := sm) (srcw := ptM) (dstw := l8M) (default : HIx 1) (N := l8M.view.dmaCredit) rfl) $$ [HF HO Hmw]
  · isplitl [HF]; · iexact HF
    isplitl [HO] <;> iassumption
  iintro ⟨⟨Hl, Hp⟩, Hv, HO⟩
  iapply Hk
  isplitl [Hp]; · iexact Hp
  isplitl [Hl]; · iexact Hl
  isplitl [Hv] <;> iassumption

theorem stage_list (q : PosShare TreeShare) (sm : DmaSem sig) (O : CellTallies nD τ sig (HIx 1))
    {kk : PUnit → Prog (TpuEff nD τ sig (Elt F) Λ₀ (VT d L).2) α} (f : Buf (Elt F) (l9Loc d L)) {h1 h2 h3 h4 h5} :
    iprop((ixLoc d ↦{q} (ix : Buf (Elt F) (ixLoc d))) ∗ (l9Loc d L ↦{fullShare} f) ∗ c0 d L sm ∗ OW (VT d L) O ∗ MayWaits (VT d L) (default : HIx 1) O)
      ⊢ iprop((iprop((ixLoc d ↦{q} (ix : Buf (Elt F) (ixLoc d))) ∗ (l9Loc d L ↦{fullShare} (lst L ix : Buf (Elt F) (l9Loc d L))) ∗ c0 d L sm ∗ OW (VT d L) O) -∗ wpT d L (kk ⟨⟩) Q)
        -∗ wpT d L (Prog.lift (.enqueueDma (gidxM L) (.here l9M) (.dma sm) h1 h2 h3) >>= fun _ =>
            Prog.lift (.waitDma2 sm (gidxM L) l9M h4 h5) >>= kk) Q) := by
  iintro ⟨Hp, Hl, Hv, HO, Hmw⟩ Hk
  iapply (dma_step EC 𝒱₀ (VT d L) none (k := fun _ => Prog.lift (.waitDma2 sm (gidxM L) l9M h4 h5) >>= kk) (src := gidxM L) (dst := l9M) (q := q)
    (fs := (ix : Buf (Elt F) (ixLoc d))) (Ss := Finset.univ) (Sd := Finset.univ) (fd := f)
    (lst L ix : Buf (Elt F) (l9Loc d L)) (default : HIx 1) l9M.view.dmaCredit rfl (View.dmaCredit_pos _ (by decide))
    (Finset.subset_univ _) (Finset.subset_univ _) (fun i _ => by
      have := View.write_emb_of_mem (v := l9M.view) (Val := Elt F) f (((gidxM L).view.read (Elt F) (ix : Buf (Elt F) (ixLoc d)))) (Finset.mem_univ i)
      refine Eq.trans this ?_
      have hi := gidxM_emb L i
      show ix ((gidxM L).view.emb i) = ix _
      congr 1
      exact eq_mk2 _ hi.1 hi.2)) $$ [Hp Hl Hv]
  · isplitl [Hp]; · iexact Hp
    isplitl [Hl] <;> iassumption
  iintro HF
  iapply (wait_step EC 𝒱₀ (VT d L) none (k := kk) (sem := sm) (srcw := gidxM L) (dstw := l9M) (default : HIx 1) (N := l9M.view.dmaCredit) rfl) $$ [HF HO Hmw]
  · isplitl [HF]; · iexact HF
    isplitl [HO] <;> iassumption
  iintro ⟨⟨Hl, Hp⟩, Hv, HO⟩
  iapply Hk
  isplitl [Hp]; · iexact Hp
  isplitl [Hl]; · iexact Hl
  isplitl [Hv] <;> iassumption

end Cert.Proof.IT
end
-- ==== Proof.IParts.lean ====
/-
  The gather, part by part: the chunks' gathers into the two halves of the row buffer and the copies out, each part from
  the state the previous one leaves.
-/
module

public import proofs.«01_k».proof.Proof.IGather

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

variable (d : Dev nD) (L : grid0.Coords)
variable (tb : S65536x128.Idx → Elt F .f32) (ix : S1x32768.Idx → BitVec 32)
variable (rp : S4096x1024.Idx → BitVec 32) (pt : S64.Idx → Elt F .f32)

/-- The offset of chunk `k` of the task. -/
theorem off2 (k : Fin 8) : k0_off2 L (BitVec.ofNat 32 (128 * k.val)) = ![128 * (8 * wg L + k.val), 0] := by
  rw [k0_off2_eq]
  unfold wg
  congr 1; omega

/-- A part that has only its result left to give. -/
theorem wpT_pure {β : Type} {r : β} {Q : β → sProp 𝕄} : Q r ⊢ wpT (F := F) d L (pure r) Q := by
  show Q r ⊢ wp _ _ _ (Prog.ret r) Q
  rw [wp_ret]
  iintro H
  imodintro
  iexact H

/-- What comes back with half `b` of the row buffer: its shares and its cell. -/
abbrev RB (q : PosShare TreeShare) (sm : DmaSem sig) (b : ℕ) : sProp 𝕄 := iprop(TB d tb q b ∗ L9 d L ix b ∗ c0 d L sm)
/-- The evidence for the waits, and what is owed. -/
abbrev MW (O : CellTallies nD τ sig (HIx 1)) : sProp 𝕄 := MayWaits (VT d L) (default : HIx 1) O

omit [FloatOps F] in
/-- The staged list as what stays behind and two read shares. -/
theorem l9_toks : (l9Loc d L ↦{fullShare} (lst L ix : Buf (Elt F) (l9Loc d L)) : sProp 𝕄)
    ⊣⊢ iprop((l9Loc d L ↦{Transfers.shareDrop fullShare 2} (lst L ix : Buf (Elt F) (l9Loc d L))) ∗ L9 d L ix 0 ∗ L9 d L ix 1) := by
  have h := Transfers.pointsTo_toks_range (nD := nD) (τ := τ) (sig := sig) (Ix := HIx 1) (Val := Elt F) (Name := ℕ) (U := UU) (Lvl := ℕ) (ℓ := l9Loc d L) (S := Finset.univ) (f := (lst L ix : Buf (Elt F) (l9Loc d L))) fullShare 2
  rw [show Finset.range 2 = {0, 1} by decide, SparseCore.bigSep_insert' (by decide), bigSep_singleton] at h
  exact h

theorem part3_run (hix : ∀ j, (ix j).toNat < 65536) (q : PosShare TreeShare) (O : CellTallies nD τ sig (HIx 1)) (f0 f1 : Buf (Elt F) (l10Loc d L)) (qp qi : PosShare TreeShare) (f8 : Buf (Elt F) (l8Loc d L)) (f9 : Buf (Elt F) (l9Loc d L)) :
    iprop(MW (F := F) d L O ∗ (ptLoc d ↦{qp} (pt : Buf (Elt F) (ptLoc d))) ∗ (ixLoc d ↦{qi} (ix : Buf (Elt F) (ixLoc d))) ∗ (l8Loc d L ↦{fullShare} f8) ∗ (l9Loc d L ↦{fullShare} f9) ∗ c0 d L cc0_scoped0.sem ∗ c0 d L cc0_scoped1.sem ∗ SLf d L 0 f0 ∗ SLf d L 1 f1 ∗ TB d tb q 0 ∗ c0 d L cc0_scratch3.sem ∗ TB d tb q 1 ∗ c0 d L cc0_scratch4.sem ∗ OW (VT d L) O)
      ⊢ wpT d L (k0_part3 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5)
        fun r => iprop(⌜r = ⟨BitVec.ofNat 32 (L 0).val, BitVec.ofNat 32 (L 1).val, Scalar.muli (Scalar.addi (Scalar.muli (BitVec.ofNat 32 (L 1).val) 2#32) (BitVec.ofNat 32 (L 0).val)) 1024#32⟩⌝ ∗ (ptLoc d ↦{qp} (pt : Buf (Elt F) (ptLoc d))) ∗ (ixLoc d ↦{qi} (ix : Buf (Elt F) (ixLoc d))) ∗ (l8Loc d L ↦{fullShare} (pt : Buf (Elt F) (l8Loc d L))) ∗ (l9Loc d L ↦{Transfers.shareDrop fullShare 2} (lst L ix : Buf (Elt F) (l9Loc d L))) ∗ c0 d L cc0_scoped0.sem ∗ c0 d L cc0_scoped1.sem ∗ OW (VT d L) O ∗ GF d L tb ix q cc0_scratch4.sem 1 1 ∗ SLk d L tb ix 0 0 ∗ TB d tb q 0 ∗ L9 d L ix 0 ∗ c0 d L cc0_scratch3.sem) := by
  unfold k0_part3
  dsimp only
  iintro ⟨#Hmw, Hp, Hi, H8, H9, Hd0, Hd1, Hs0, Hs1, Ht0, Hc0, Ht1, Hc1, HO⟩
  iapply (stage_table d L pt qp cc0_scoped0.sem O f8) $$ [Hp H8 Hd0 HO]
  · isplitl [Hp]; · iexact Hp
    isplitl [H8]; · iexact H8
    isplitl [Hd0]; · iexact Hd0
    isplitl [HO]; · iexact HO
    iexact Hmw
  iintro ⟨Hp, H8, Hd0, HO⟩
  iapply (stage_list d L ix qi cc0_scoped1.sem O f9) $$ [Hi H9 Hd1 HO]
  · isplitl [Hi]; · iexact Hi
    isplitl [H9]; · iexact H9
    isplitl [Hd1]; · iexact Hd1
    isplitl [HO]; · iexact HO
    iexact Hmw
  iintro ⟨Hi, H9, Hd1, HO⟩
  ihave H9 := (l9_toks d L ix).1 $$ H9
  icases H9 with ⟨Hlr, Hl0, Hl1⟩
  iapply (gather_issue d L tb ix hix q cc0_scratch3.sem 0 0 (by decide) rfl _ rfl _ f0) $$ [Hs0 Ht0 Hl0 Hc0]
  · isplitl [Hs0]; · iexact Hs0
    isplitl [Ht0]; · iexact Ht0
    isplitl [Hl0]; · iexact Hl0
    iexact Hc0
  iintro Hf0
  iapply (gather_issue d L tb ix hix q cc0_scratch4.sem 1 1 (by decide) rfl _ rfl _ f1) $$ [Hs1 Ht1 Hl1 Hc1]
  · isplitl [Hs1]; · iexact Hs1
    isplitl [Ht1]; · iexact Ht1
    isplitl [Hl1]; · iexact Hl1
    iexact Hc1
  iintro Hf1
  iapply (gather_wait d L tb ix q cc0_scratch3.sem 0 0 O _) $$ [Hf0 HO]
  · isplitl [Hf0]; · iexact Hf0
    isplitl [HO]; · iexact HO
    iexact Hmw
  iintro ⟨⟨Hs0, Ht0, Hl0⟩, Hc0, HO⟩
  iapply (wpT_pure d L)
  isplitr; · ipureintro; rfl
  isplitl [Hp]; · iexact Hp
  isplitl [Hi]; · iexact Hi
  isplitl [H8]; · iexact H8
  isplitl [Hlr]; · iexact Hlr
  isplitl [Hd0]; · iexact Hd0
  isplitl [Hd1]; · iexact Hd1
  isplitl [HO]; · iexact HO
  isplitl [Hf1]; · iexact Hf1
  isplitl [Hs0]; · iexact Hs0
  isplitl [Ht0]; · iexact Ht0
  isplitl [Hl0]; · iexact Hl0
  iexact Hc0

theorem part4_run (hix : ∀ j, (ix j).toNat < 65536) (q : PosShare TreeShare) (O : CellTallies nD τ sig (HIx 1)) (fo : Buf (Elt F) (goLoc d)) (v2 : BitVec 32) :
    iprop(MW (F := F) d L O ∗ c0 d L cc0_scratch5.sem ∗ GOf d L 0 fo ∗ OW (VT d L) O ∗ GF d L tb ix q cc0_scratch4.sem 1 1 ∗ SLk d L tb ix 0 0 ∗ TB d tb q 0 ∗ L9 d L ix 0 ∗ c0 d L cc0_scratch3.sem)
      ⊢ wpT d L (k0_part4 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 v2)
        fun _ => iprop(OW (VT d L) O ∗ GOk d L tb ix 0 ∗ c0 d L cc0_scratch5.sem ∗ GF d L tb ix q cc0_scratch3.sem 0 2 ∗ SLk d L tb ix 1 1 ∗ TB d tb q 1 ∗ L9 d L ix 1 ∗ c0 d L cc0_scratch4.sem) := by
  unfold k0_part4
  dsimp only
  iintro ⟨#Hmw, Hc2, Hg0, HO, Hf1, Hs0, Ht0, Hl0, Hc0⟩
  iapply (out_issue d L tb ix cc0_scratch5.sem 0 0 (by decide) rfl _ (show k0_off2 L 0#32 = _ from off2 L 0) _ fo) $$ [Hs0 Hg0 Hc2]
  · isplitl [Hs0]; · iexact Hs0
    isplitl [Hg0]; · iexact Hg0
    iexact Hc2
  iintro Ho
  iapply (out_wait d L tb ix cc0_scratch5.sem 0 0 O _ _) $$ [Ho HO]
  · isplitl [Ho]; · iexact Ho
    isplitl [HO]; · iexact HO
    iexact Hmw
  iintro ⟨⟨Hg0, Hs0⟩, Hc2, HO⟩
  iapply (gather_issue d L tb ix hix q cc0_scratch3.sem 0 2 (by decide) rfl _ rfl _ _) $$ [Hs0 Ht0 Hl0 Hc0]
  · isplitl [Hs0]; · iexact Hs0
    isplitl [Ht0]; · iexact Ht0
    isplitl [Hl0]; · iexact Hl0
    iexact Hc0
  iintro Hf0
  iapply (gather_wait d L tb ix q cc0_scratch4.sem 1 1 O _) $$ [Hf1 HO]
  · isplitl [Hf1]; · iexact Hf1
    isplitl [HO]; · iexact HO
    iexact Hmw
  iintro ⟨⟨Hs1, Ht1, Hl1⟩, Hc1, HO⟩
  iapply (wpT_pure d L)
  isplitl [HO]; · iexact HO
  isplitl [Hg0]; · iexact Hg0
  isplitl [Hc2]; · iexact Hc2
  isplitl [Hf0]; · iexact Hf0
  isplitl [Hs1]; · iexact Hs1
  isplitl [Ht1]; · iexact Ht1
  isplitl [Hl1]; · iexact Hl1
  iexact Hc1

theorem part5_run (hix : ∀ j, (ix j).toNat < 65536) (q : PosShare TreeShare) (O : CellTallies nD τ sig (HIx 1)) (fo : Buf (Elt F) (goLoc d)) (v2 : BitVec 32) :
    iprop(MW (F := F) d L O ∗ GOf d L 1 fo ∗ GOf d L 2 fo ∗ OW (VT d L) O ∗ c0 d L cc0_scratch5.sem ∗ GF d L tb ix q cc0_scratch3.sem 0 2 ∗ SLk d L tb ix 1 1 ∗ TB d tb q 1 ∗ L9 d L ix 1 ∗ c0 d L cc0_scratch4.sem)
      ⊢ wpT d L (k0_part5 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 v2)
        fun _ => iprop(OW (VT d L) O ∗ GOk d L tb ix 1 ∗ GF d L tb ix q cc0_scratch4.sem 1 3 ∗ TB d tb q 0 ∗ L9 d L ix 0 ∗ c0 d L cc0_scratch3.sem ∗ OF d L tb ix cc0_scratch5.sem 0 2) := by
  unfold k0_part5
  dsimp only
  iintro ⟨#Hmw, Hg1, Hg2, HO, Hc2, Hf0, Hs1, Ht1, Hl1, Hc1⟩
  iapply (out_issue d L tb ix cc0_scratch5.sem 1 1 (by decide) rfl _ (show k0_off2 L 128#32 = _ from off2 L 1) _ fo) $$ [Hs1 Hg1 Hc2]
  · isplitl [Hs1]; · iexact Hs1
    isplitl [Hg1]; · iexact Hg1
    iexact Hc2
  iintro Ho
  iapply (out_wait d L tb ix cc0_scratch5.sem 1 1 O _ _) $$ [Ho HO]
  · isplitl [Ho]; · iexact Ho
    isplitl [HO]; · iexact HO
    iexact Hmw
  iintro ⟨⟨Hg1, Hs1⟩, Hc2, HO⟩
  iapply (gather_issue d L tb ix hix q cc0_scratch4.sem 1 3 (by decide) rfl _ rfl _ _) $$ [Hs1 Ht1 Hl1 Hc1]
  · isplitl [Hs1]; · iexact Hs1
    isplitl [Ht1]; · iexact Ht1
    isplitl [Hl1]; · iexact Hl1
    iexact Hc1
  iintro Hf1
  iapply (gather_wait d L tb ix q cc0_scratch3.sem 0 2 O _) $$ [Hf0 HO]
  · isplitl [Hf0]; · iexact Hf0
    isplitl [HO]; · iexact HO
    iexact Hmw
  iintro ⟨⟨Hs0, Ht0, Hl0⟩, Hc0, HO⟩
  iapply (out_issue d L tb ix cc0_scratch5.sem 0 2 (by decide) rfl _ (show k0_off2 L 256#32 = _ from off2 L 2) _ fo) $$ [Hs0 Hg2 Hc2]
  · isplitl [Hs0]; · iexact Hs0
    isplitl [Hg2]; · iexact Hg2
    iexact Hc2
  iintro Ho
  iapply (wpT_pure d L)
  isplitl [HO]; · iexact HO
  isplitl [Hg1]; · iexact Hg1
  isplitl [Hf1]; · iexact Hf1
  isplitl [Ht0]; · iexact Ht0
  isplitl [Hl0]; · iexact Hl0
  isplitl [Hc0]; · iexact Hc0
  iexact Ho

theorem part6_run (hix : ∀ j, (ix j).toNat < 65536) (q : PosShare TreeShare) (O : CellTallies nD τ sig (HIx 1)) (fo : Buf (Elt F) (goLoc d)) (v2 : BitVec 32) :
    iprop(MW (F := F) d L O ∗ GOf d L 3 fo ∗ OW (VT d L) O ∗ GF d L tb ix q cc0_scratch4.sem 1 3 ∗ TB d tb q 0 ∗ L9 d L ix 0 ∗ c0 d L cc0_scratch3.sem ∗ OF d L tb ix cc0_scratch5.sem 0 2)
      ⊢ wpT d L (k0_part6 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 v2)
        fun _ => iprop(OW (VT d L) O ∗ GOk d L tb ix 2 ∗ GF d L tb ix q cc0_scratch3.sem 0 4 ∗ TB d tb q 1 ∗ L9 d L ix 1 ∗ c0 d L cc0_scratch4.sem ∗ OF d L tb ix cc0_scratch5.sem 1 3) := by
  unfold k0_part6
  dsimp only
  iintro ⟨#Hmw, Hg3, HO, Hf1, Ht0, Hl0, Hc0, Ho⟩
  iapply (out_wait d L tb ix cc0_scratch5.sem 0 2 O _ _) $$ [Ho HO]
  · isplitl [Ho]; · iexact Ho
    isplitl [HO]; · iexact HO
    iexact Hmw
  iintro ⟨⟨Hg2, Hs0⟩, Hc2, HO⟩
  iapply (gather_issue d L tb ix hix q cc0_scratch3.sem 0 4 (by decide) rfl _ rfl _ _) $$ [Hs0 Ht0 Hl0 Hc0]
  · isplitl [Hs0]; · iexact Hs0
    isplitl [Ht0]; · iexact Ht0
    isplitl [Hl0]; · iexact Hl0
    iexact Hc0
  iintro Hf0
  iapply (gather_wait d L tb ix q cc0_scratch4.sem 1 3 O _) $$ [Hf1 HO]
  · isplitl [Hf1]; · iexact Hf1
    isplitl [HO]; · iexact HO
    iexact Hmw
  iintro ⟨⟨Hs1, Ht1, Hl1⟩, Hc1, HO⟩
  iapply (out_issue d L tb ix cc0_scratch5.sem 1 3 (by decide) rfl _ (show k0_off2 L 384#32 = _ from off2 L 3) _ fo) $$ [Hs1 Hg3 Hc2]
  · isplitl [Hs1]; · iexact Hs1
    isplitl [Hg3]; · iexact Hg3
    iexact Hc2
  iintro Ho
  iapply (wpT_pure d L)
  isplitl [HO]; · iexact HO
  isplitl [Hg2]; · iexact Hg2
  isplitl [Hf0]; · iexact Hf0
  isplitl [Ht1]; · iexact Ht1
  isplitl [Hl1]; · iexact Hl1
  isplitl [Hc1]; · iexact Hc1
  iexact Ho

theorem part7_run (hix : ∀ j, (ix j).toNat < 65536) (q : PosShare TreeShare) (O : CellTallies nD τ sig (HIx 1)) (fo : Buf (Elt F) (goLoc d)) (v2 : BitVec 32) :
    iprop(MW (F := F) d L O ∗ GOf d L 4 fo ∗ OW (VT d L) O ∗ GF d L tb ix q cc0_scratch3.sem 0 4 ∗ TB d tb q 1 ∗ L9 d L ix 1 ∗ c0 d L cc0_scratch4.sem ∗ OF d L tb ix cc0_scratch5.sem 1 3)
      ⊢ wpT d L (k0_part7 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 v2)
        fun _ => iprop(OW (VT d L) O ∗ GOk d L tb ix 3 ∗ GF d L tb ix q cc0_scratch4.sem 1 5 ∗ TB d tb q 0 ∗ L9 d L ix 0 ∗ c0 d L cc0_scratch3.sem ∗ OF d L tb ix cc0_scratch5.sem 0 4) := by
  unfold k0_part7
  dsimp only
  iintro ⟨#Hmw, Hg4, HO, Hf0, Ht1, Hl1, Hc1, Ho⟩
  iapply (out_wait d L tb ix cc0_scratch5.sem 1 3 O _ _) $$ [Ho HO]
  · isplitl [Ho]; · iexact Ho
    isplitl [HO]; · iexact HO
    iexact Hmw
  iintro ⟨⟨Hg3, Hs1⟩, Hc2, HO⟩
  iapply (gather_issue d L tb ix hix q cc0_scratch4.sem 1 5 (by decide) rfl _ rfl _ _) $$ [Hs1 Ht1 Hl1 Hc1]
  · isplitl [Hs1]; · iexact Hs1
    isplitl [Ht1]; · iexact Ht1
    isplitl [Hl1]; · iexact Hl1
    iexact Hc1
  iintro Hf1
  iapply (gather_wait d L tb ix q cc0_scratch3.sem 0 4 O _) $$ [Hf0 HO]
  · isplitl [Hf0]; · iexact Hf0
    isplitl [HO]; · iexact HO
    iexact Hmw
  iintro ⟨⟨Hs0, Ht0, Hl0⟩, Hc0, HO⟩
  iapply (out_issue d L tb ix cc0_scratch5.sem 0 4 (by decide) rfl _ (show k0_off2 L 512#32 = _ from off2 L 4) _ fo) $$ [Hs0 Hg4 Hc2]
  · isplitl [Hs0]; · iexact Hs0
    isplitl [Hg4]; · iexact Hg4
    iexact Hc2
  iintro Ho
  iapply (wpT_pure d L)
  isplitl [HO]; · iexact HO
  isplitl [Hg3]; · iexact Hg3
  isplitl [Hf1]; · iexact Hf1
  isplitl [Ht0]; · iexact Ht0
  isplitl [Hl0]; · iexact Hl0
  isplitl [Hc0]; · iexact Hc0
  iexact Ho

theorem part8_run (hix : ∀ j, (ix j).toNat < 65536) (q : PosShare TreeShare) (O : CellTallies nD τ sig (HIx 1)) (fo : Buf (Elt F) (goLoc d)) (v2 : BitVec 32) :
    iprop(MW (F := F) d L O ∗ GOf d L 5 fo ∗ OW (VT d L) O ∗ GF d L tb ix q cc0_scratch4.sem 1 5 ∗ TB d tb q 0 ∗ L9 d L ix 0 ∗ c0 d L cc0_scratch3.sem ∗ OF d L tb ix cc0_scratch5.sem 0 4)
      ⊢ wpT d L (k0_part8 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 v2)
        fun _ => iprop(OW (VT d L) O ∗ GOk d L tb ix 4 ∗ GF d L tb ix q cc0_scratch3.sem 0 6 ∗ TB d tb q 1 ∗ L9 d L ix 1 ∗ c0 d L cc0_scratch4.sem ∗ GOk d L tb ix 5 ∗ SLk d L tb ix 1 5 ∗ c0 d L cc0_scratch5.sem) := by
  unfold k0_part8
  dsimp only
  iintro ⟨#Hmw, Hg5, HO, Hf1, Ht0, Hl0, Hc0, Ho⟩
  iapply (out_wait d L tb ix cc0_scratch5.sem 0 4 O _ _) $$ [Ho HO]
  · isplitl [Ho]; · iexact Ho
    isplitl [HO]; · iexact HO
    iexact Hmw
  iintro ⟨⟨Hg4, Hs0⟩, Hc2, HO⟩
  iapply (gather_issue d L tb ix hix q cc0_scratch3.sem 0 6 (by decide) rfl _ rfl _ _) $$ [Hs0 Ht0 Hl0 Hc0]
  · isplitl [Hs0]; · iexact Hs0
    isplitl [Ht0]; · iexact Ht0
    isplitl [Hl0]; · iexact Hl0
    iexact Hc0
  iintro Hf0
  iapply (gather_wait d L tb ix q cc0_scratch4.sem 1 5 O _) $$ [Hf1 HO]
  · isplitl [Hf1]; · iexact Hf1
    isplitl [HO]; · iexact HO
    iexact Hmw
  iintro ⟨⟨Hs1, Ht1, Hl1⟩, Hc1, HO⟩
  iapply (out_issue d L tb ix cc0_scratch5.sem 1 5 (by decide) rfl _ (show k0_off2 L 640#32 = _ from off2 L 5) _ fo) $$ [Hs1 Hg5 Hc2]
  · isplitl [Hs1]; · iexact Hs1
    isplitl [Hg5]; · iexact Hg5
    iexact Hc2
  iintro Ho
  iapply (out_wait d L tb ix cc0_scratch5.sem 1 5 O _ _) $$ [Ho HO]
  · isplitl [Ho]; · iexact Ho
    isplitl [HO]; · iexact HO
    iexact Hmw
  iintro ⟨⟨Hg5, Hs1⟩, Hc2, HO⟩
  iapply (wpT_pure d L)
  isplitl [HO]; · iexact HO
  isplitl [Hg4]; · iexact Hg4
  isplitl [Hf0]; · iexact Hf0
  isplitl [Ht1]; · iexact Ht1
  isplitl [Hl1]; · iexact Hl1
  isplitl [Hc1]; · iexact Hc1
  isplitl [Hg5]; · iexact Hg5
  isplitl [Hs1]; · iexact Hs1
  iexact Hc2

theorem part9_run (hix : ∀ j, (ix j).toNat < 65536) (q : PosShare TreeShare) (O : CellTallies nD τ sig (HIx 1)) (fo : Buf (Elt F) (goLoc d)) (v2 : BitVec 32) :
    iprop(MW (F := F) d L O ∗ GOf d L 6 fo ∗ OW (VT d L) O ∗ GF d L tb ix q cc0_scratch3.sem 0 6 ∗ TB d tb q 1 ∗ L9 d L ix 1 ∗ c0 d L cc0_scratch4.sem ∗ SLk d L tb ix 1 5 ∗ c0 d L cc0_scratch5.sem)
      ⊢ wpT d L (k0_part9 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 v2)
        fun _ => iprop(OW (VT d L) O ∗ TB d tb q 0 ∗ L9 d L ix 0 ∗ c0 d L cc0_scratch3.sem ∗ GOk d L tb ix 6 ∗ SLk d L tb ix 0 6 ∗ c0 d L cc0_scratch5.sem ∗ SLk d L tb ix 1 7 ∗ TB d tb q 1 ∗ L9 d L ix 1 ∗ c0 d L cc0_scratch4.sem) := by
  unfold k0_part9
  dsimp only
  iintro ⟨#Hmw, Hg6, HO, Hf0, Ht1, Hl1, Hc1, Hs1, Hc2⟩
  iapply (gather_issue d L tb ix hix q cc0_scratch4.sem 1 7 (by decide) rfl _ rfl _ _) $$ [Hs1 Ht1 Hl1 Hc1]
  · isplitl [Hs1]; · iexact Hs1
    isplitl [Ht1]; · iexact Ht1
    isplitl [Hl1]; · iexact Hl1
    iexact Hc1
  iintro Hf1
  iapply (gather_wait d L tb ix q cc0_scratch3.sem 0 6 O _) $$ [Hf0 HO]
  · isplitl [Hf0]; · iexact Hf0
    isplitl [HO]; · iexact HO
    iexact Hmw
  iintro ⟨⟨Hs0, Ht0, Hl0⟩, Hc0, HO⟩
  iapply (out_issue d L tb ix cc0_scratch5.sem 0 6 (by decide) rfl _ (show k0_off2 L 768#32 = _ from off2 L 6) _ fo) $$ [Hs0 Hg6 Hc2]
  · isplitl [Hs0]; · iexact Hs0
    isplitl [Hg6]; · iexact Hg6
    iexact Hc2
  iintro Ho
  iapply (out_wait d L tb ix cc0_scratch5.sem 0 6 O _ _) $$ [Ho HO]
  · isplitl [Ho]; · iexact Ho
    isplitl [HO]; · iexact HO
    iexact Hmw
  iintro ⟨⟨Hg6, Hs0⟩, Hc2, HO⟩
  iapply (gather_wait d L tb ix q cc0_scratch4.sem 1 7 O _) $$ [Hf1 HO]
  · isplitl [Hf1]; · iexact Hf1
    isplitl [HO]; · iexact HO
    iexact Hmw
  iintro ⟨⟨Hs1, Ht1, Hl1⟩, Hc1, HO⟩
  iapply (wpT_pure d L)
  isplitl [HO]; · iexact HO
  isplitl [Ht0]; · iexact Ht0
  isplitl [Hl0]; · iexact Hl0
  isplitl [Hc0]; · iexact Hc0
  isplitl [Hg6]; · iexact Hg6
  isplitl [Hs0]; · iexact Hs0
  isplitl [Hc2]; · iexact Hc2
  isplitl [Hs1]; · iexact Hs1
  isplitl [Ht1]; · iexact Ht1
  isplitl [Hl1]; · iexact Hl1
  iexact Hc1

/-- The task's first block of sixteen rows, as the words hold it. -/
abbrev P10a (a0 a1 : BitVec 32) : BitVec 32 :=
  Scalar.muli (Scalar.addi (Scalar.addi 0#32 (Scalar.muli a1 1#32)) (Scalar.muli a0 16#32)) 8#32

theorem part10_run (hix : ∀ j, (ix j).toNat < 65536) (q : PosShare TreeShare) (O : CellTallies nD τ sig (HIx 1)) (fo : Buf (Elt F) (goLoc d)) (a0 a1 v2 : BitVec 32) :
    iprop(MW (F := F) d L O ∗ GOf d L 7 fo ∗ OW (VT d L) O ∗ c0 d L cc0_scratch5.sem ∗ SLk d L tb ix 1 7)
      ⊢ wpT d L (k0_part10 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 a0 a1 v2)
        fun r => iprop(⌜r = ⟨P10a a0 a1, Scalar.addi 0#32 (P10a a0 a1), 1#32⟩⌝ ∗ OW (VT d L) O ∗ GOk d L tb ix 7 ∗ SLk d L tb ix 1 7 ∗ c0 d L cc0_scratch5.sem) := by
  unfold k0_part10
  dsimp only
  iintro ⟨#Hmw, Hg7, HO, Hc2, Hs1⟩
  iapply (out_issue d L tb ix cc0_scratch5.sem 1 7 (by decide) rfl _ (show k0_off2 L 896#32 = _ from off2 L 7) _ fo) $$ [Hs1 Hg7 Hc2]
  · isplitl [Hs1]; · iexact Hs1
    isplitl [Hg7]; · iexact Hg7
    iexact Hc2
  iintro Ho
  iapply (out_wait d L tb ix cc0_scratch5.sem 1 7 O _ _) $$ [Ho HO]
  · isplitl [Ho]; · iexact Ho
    isplitl [HO]; · iexact HO
    iexact Hmw
  iintro ⟨⟨Hg7, Hs1⟩, Hc2, HO⟩
  iapply (wpT_pure d L)
  isplitr; · ipureintro; rfl
  isplitl [HO]; · iexact HO
  isplitl [Hg7]; · iexact Hg7
  isplitl [Hs1]; · iexact Hs1
  iexact Hc2

end Cert.Proof.IT
end
-- ==== Proof.IOffs.lean ====
/-
  The words the bias pipeline carries from trip to trip, and where its windows fall at trip `t`: halves of the block
  buffers by the parity of `t`, blocks of sixteen rows counted from the task's first.
-/
module

public import proofs.«01_k».proof.Proof.IParts

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

/-- A count as a 32-bit word. -/
abbrev wd (n : ℕ) : BitVec 32 := BitVec.ofNat 32 n
/-- The word the next fetch counts, and the block's number within the task. -/
abbrev w15 (t : ℕ) : BitVec 32 := wd (min (t + 1) 8)
abbrev w19 (t : ℕ) : BitVec 32 := wd (t % 8)

/-- The task's first block, as the words hold it. -/
abbrev Vw (L : grid0.Coords) : BitVec 32 := P10a (BitVec.ofNat 32 (L 0).val) (BitVec.ofNat 32 (L 1).val)

theorem Vw_toNat (L : grid0.Coords) : (Vw L).toNat = 8 * wb L := by
  have h0 := L0_lt L
  have h1 := L1_lt L
  show (((0#32 + BitVec.ofNat 32 (L 1).val * 1#32) + BitVec.ofNat 32 (L 0).val * 16#32) * 8#32).toNat = _
  unfold wb
  simp only [BitVec.toNat_add, BitVec.toNat_mul, BitVec.toNat_ofNat]
  omega

theorem block_word (L : grid0.Coords) (x : BitVec 32) {n : ℕ} (hn : n < 256) (hx : x.toNat = n) :
    (Scalar.muli 16#32 (Scalar.addi x (Vw L))).toNat = 16 * (8 * wb L + n) := by
  have h := Vw_toNat L
  have hw := wb_lt L
  show (16#32 * (x + Vw L)).toNat = _
  simp only [BitVec.toNat_add, BitVec.toNat_mul, BitVec.toNat_ofNat, h, hx]
  omega

theorem ne_addi (a b v : BitVec 32) (h : a ≠ b) : Scalar.cmpi .ne (Scalar.addi a v) (Scalar.addi b v) = 1#1 := by
  have h' : Scalar.addi a v ≠ Scalar.addi b v := fun e => h (by
    have e' : a + v = b + v := e
    rw [BitVec.add_left_inj] at e'; exact e')
  show BitVec.ofBool (Scalar.addi a v != Scalar.addi b v) = 1#1
  rw [show (Scalar.addi a v != Scalar.addi b v) = true from bne_iff_ne.mpr h']
  rfl

theorem trips_eq : k0_t1_loop.trips = 8 := by decide
theorem t_lt (t : Fin k0_t1_loop.trips) : t.val < 8 := lt_of_lt_of_eq t.isLt trips_eq

/-! ## Halves by parity -/
theorem off6_wd : ∀ n : Fin 9, k0_off6 (wd n.val) = ![n.val % 2, 0, 0] := by decide
theorem off9_wd : ∀ n : Fin 9, k0_off9 (wd n.val) = ![n.val % 2, 0, 0] := by decide
theorem off12_wd : ∀ n : Fin 9, k0_off12 (wd n.val) = ![n.val % 2, 0, 0] := by decide
theorem off14_wd : ∀ n : Fin 9, k0_off14 (wd n.val) = ![n.val % 2, 0, 0] := by decide
theorem off16_wd : ∀ n : Fin 9, k0_off16 (wd n.val) = ![n.val % 2, 0, 0] := by decide
theorem off19_wd : ∀ n : Fin 9, k0_off19 (wd n.val) = ![n.val % 2, 0, 0] := by decide
theorem off22_wd : ∀ n : Fin 9, k0_off22 (wd n.val) = ![n.val % 2, 0, 0] := by decide
theorem off25_wd : ∀ n : Fin 9, k0_off25 (wd n.val) = ![n.val % 2, 0, 0] := by decide
theorem off8_wd : ∀ n : Fin 9, k0_off8 (wd n.val) = ![n.val % 2] := by decide
theorem off11_wd : ∀ n : Fin 9, k0_off11 (wd n.val) = ![n.val % 2] := by decide
theorem off18_wd : ∀ n : Fin 9, k0_off18 (wd n.val) = ![n.val % 2] := by decide
theorem off21_wd : ∀ n : Fin 9, k0_off21 (wd n.val) = ![n.val % 2] := by decide
theorem off24_wd : ∀ n : Fin 9, k0_off24 (wd n.val) = ![n.val % 2] := by decide

/-! ## Blocks -/

theorem off10_w (L : grid0.Coords) {t : ℕ} (ht : t < 8) : k0_off10 L (w19 t) = ![16 * (8 * wb L + t), 0] := by
  show ![(Scalar.muli 16#32 (Scalar.addi (w19 t) (Vw L))).toNat, 0] = _
  rw [block_word L (w19 t) (n := t) (by omega) (by simp only [BitVec.toNat_ofNat]; omega)]
theorem off17_w (L : grid0.Coords) {t : ℕ} (ht : t < 8) : k0_off17 L (w19 t) = ![16 * (8 * wb L + t), 0] := off10_w L ht

/-- The word of the next block, of the previous one. -/
abbrev nxw (x : BitVec 32) : BitVec 32 :=
  Scalar.select (Scalar.cmpi .eq (Scalar.select 1#1 (Scalar.addi x 1#32) x) 8#32) 0#32 (Scalar.select 1#1 (Scalar.addi x 1#32) x)
abbrev pvw (x : BitVec 32) : BitVec 32 :=
  Scalar.select (Scalar.cmpi .eq (Scalar.select 1#1 (Scalar.subi x 1#32) x) 4294967295#32) 7#32 (Scalar.select 1#1 (Scalar.subi x 1#32) x)

theorem nxw_w : ∀ t : Fin 8, nxw (w19 t.val) = w19 (t.val + 1) := by decide
theorem pvw_w : ∀ t : Fin 9, pvw (w19 t.val) = wd ((t.val + 7) % 8) := by decide

theorem off7_w (L : grid0.Coords) {t : ℕ} (ht : t < 7) : k0_off7 L (w19 t) = ![16 * (8 * wb L + (t + 1)), 0] := by
  show ![(Scalar.muli 16#32 (Scalar.addi (nxw (w19 t)) (Vw L))).toNat, 0] = _
  rw [nxw_w ⟨t, by omega⟩]
  rw [block_word L (w19 (t + 1)) (n := t + 1) (by omega) (by simp only [BitVec.toNat_ofNat]; omega)]
theorem off20_w (L : grid0.Coords) {t : ℕ} (h0 : 0 < t) (ht : t < 8) : k0_off20 L (w19 t) = ![16 * (8 * wb L + (t - 1)), 0] := by
  show ![(Scalar.muli 16#32 (Scalar.addi (pvw (w19 t)) (Vw L))).toNat, 0] = _
  rw [pvw_w ⟨t, by omega⟩]
  rw [block_word L _ (n := t - 1) (by omega) (by simp only [BitVec.toNat_ofNat]; omega)]
theorem off23_w (L : grid0.Coords) : k0_off23 L (w19 8) = ![16 * (8 * wb L + 7), 0] := by
  show ![(Scalar.muli 16#32 (Scalar.addi (pvw (w19 8)) (Vw L))).toNat, 0] = _
  rw [pvw_w ⟨8, by omega⟩]
  rw [block_word L _ (n := 7) (by omega) (by simp only [BitVec.toNat_ofNat])]
theorem off4_w (L : grid0.Coords) : k0_off4 L = ![16 * (8 * wb L + 0), 0] := by
  rw [k0_off4_eq]; unfold wb; congr 1; omega

/-! ## Conditions -/

/-- The words a trip computes. -/
abbrev wA (t : ℕ) : BitVec 32 := Scf.iv 0#32 1#32 t
abbrev q243 (t : ℕ) : BitVec 1 := Scalar.cmpi .eq (wA t) 0#32
abbrev q244 (t : ℕ) : BitVec 1 := Scalar.cmpi .eq (wA t) 7#32
abbrev q245 (L : grid0.Coords) (t : ℕ) : BitVec 32 := Scalar.addi (w19 t) (Vw L)
abbrev q250 (L : grid0.Coords) (t : ℕ) : BitVec 32 := Scalar.addi (pvw (w19 t)) (Vw L)
abbrev q255 (L : grid0.Coords) (t : ℕ) : BitVec 32 := Scalar.addi (nxw (w19 t)) (Vw L)

theorem ne_pv (L : grid0.Coords) {t : ℕ} (ht : t < 8) : Scalar.cmpi .ne (q245 L t) (q250 L t) = 1#1 :=
  ne_addi _ _ _ ((by decide : ∀ t : Fin 8, w19 t.val ≠ pvw (w19 t.val)) ⟨t, ht⟩)
theorem ne_nx (L : grid0.Coords) {t : ℕ} (ht : t < 8) : Scalar.cmpi .ne (q245 L t) (q255 L t) = 1#1 :=
  ne_addi _ _ _ ((by decide : ∀ t : Fin 8, w19 t.val ≠ nxw (w19 t.val)) ⟨t, ht⟩)

theorem cond1_w (L : grid0.Coords) (t : Fin k0_t1_loop.trips) : k0_cond1 L t (w19 t.val) = 1#1 ↔ t.val < 7 := by
  have e : k0_cond1 L t (w19 t.val) = Scalar.cmpi .ne (Scalar.extui (Scalar.andi (Scalar.andi (Scalar.cmpi .ne (q245 L t.val) (q255 L t.val))
      (Scalar.xori (Scalar.cmpi .sge (wA t.val) 7#32) 1#1)) 1#1) : BitVec 32) 0#32 := rfl
  rw [e, ne_nx L (t_lt t)]
  exact (by decide : ∀ t : Fin 8, (Scalar.cmpi .ne (Scalar.extui (Scalar.andi (Scalar.andi 1#1
      (Scalar.xori (Scalar.cmpi .sge (wA t.val) 7#32) 1#1)) 1#1) : BitVec 32) 0#32 = 1#1 ↔ t.val < 7)) ⟨t.val, t_lt t⟩
theorem cond2_w (L : grid0.Coords) (t : Fin k0_t1_loop.trips) : k0_cond2 L t (w19 t.val) = 1#1 := by
  have e : k0_cond2 L t (w19 t.val) = Scalar.cmpi .ne (Scalar.extui (Scalar.andi (Scalar.ori (Scalar.cmpi .ne (q245 L t.val) (q250 L t.val))
      (q243 t.val)) (Scalar.cmpi .sge (wA t.val) 0#32)) : BitVec 32) 0#32 := rfl
  rw [e, ne_pv L (t_lt t)]
  exact (by decide : ∀ t : Fin 8, Scalar.cmpi .ne (Scalar.extui (Scalar.andi (Scalar.ori 1#1 (q243 t.val)) (Scalar.cmpi .sge (wA t.val) 0#32)) : BitVec 32) 0#32 = 1#1) ⟨t.val, t_lt t⟩
theorem cond5_w (L : grid0.Coords) (t : Fin k0_t1_loop.trips) : k0_cond5 L t (w19 t.val) = 1#1 := by
  have e : k0_cond5 L t (w19 t.val) = Scalar.cmpi .ne (Scalar.extui (Scalar.ori (Scalar.cmpi .ne (q245 L t.val) (q255 L t.val)) (q244 t.val)) : BitVec 32) 0#32 := rfl
  rw [e, ne_nx L (t_lt t)]
  exact (by decide : ∀ t : Fin 8, Scalar.cmpi .ne (Scalar.extui (Scalar.ori 1#1 (q244 t.val)) : BitVec 32) 0#32 = 1#1) ⟨t.val, t_lt t⟩
theorem cond7_w (L : grid0.Coords) (t : Fin k0_t1_loop.trips) : k0_cond7 L t (w19 t.val) = 1#1 ↔ 0 < t.val := by
  have e : k0_cond7 L t (w19 t.val) = Scalar.cmpi .ne (Scalar.extui (Scalar.andi (Scalar.cmpi .ne (q245 L t.val) (q250 L t.val))
      (Scalar.xori (q243 t.val) 1#1)) : BitVec 32) 0#32 := rfl
  rw [e, ne_pv L (t_lt t)]
  exact (by decide : ∀ t : Fin 8, (Scalar.cmpi .ne (Scalar.extui (Scalar.andi 1#1 (Scalar.xori (q243 t.val) 1#1)) : BitVec 32) 0#32 = 1#1 ↔ 0 < t.val)) ⟨t.val, t_lt t⟩

/-! ## The checks -/

theorem inb3 {o : Fin 3 → ℕ} {b : ℕ} (ho : o = ![b, 0, 0]) (hb : b < 2) : ∀ a, o a + S1x16x1024.size a ≤ S2x16x1024.size a := by
  subst ho
  intro a
  match a with
  | 0 => show b + 1 ≤ 2; omega
  | 1 => show 0 + 16 ≤ 16; omega
  | 2 => show 0 + 1024 ≤ 1024; omega
theorem inb1 {o : Fin 1 → ℕ} {b : ℕ} (ho : o = ![b]) (hb : b < 2) : ∀ a, o a + S1.size a ≤ S2.size a := by
  subst ho
  intro a
  match a with
  | 0 => show b + 1 ≤ 2; omega
theorem inb2 {o : Fin 2 → ℕ} {n : ℕ} (ho : o = ![16 * n, 0]) (hn : n < 256) : ∀ a, o a + S16x1024.size a ≤ S4096x1024.size a := by
  subst ho
  intro a
  match a with
  | 0 => show 16 * n + 16 ≤ 4096; omega
  | 1 => show 0 + 1024 ≤ 1024; omega

theorem m2 (n : ℕ) : n % 2 < 2 := Nat.mod_lt _ (by decide)

theorem chk2_w {n : ℕ} (h : n < 9) : k0_chk2 (wd n) := inb3 (off12_wd ⟨n, h⟩) (m2 n)
theorem chk4_w {n : ℕ} (h : n < 9) : k0_chk4 (wd n) := inb3 (off14_wd ⟨n, h⟩) (m2 n)
theorem chk1_w (L : grid0.Coords) (t : Fin k0_t1_loop.trips) :
    k0_chk1 L t (w15 t.val) (wd t.val) (wd t.val) (wd (t.val - 1)) (w19 t.val) := by
  have ht := t_lt t
  have hw := wb_lt L
  refine ⟨fun _ => inb3 (off6_wd ⟨min (t.val + 1) 8, by omega⟩) (m2 _), fun h => ?_, fun _ => inb1 (off8_wd ⟨min (t.val + 1) 8, by omega⟩) (m2 _),
    fun _ => inb3 (off9_wd ⟨t.val, by omega⟩) (m2 _), fun _ => inb2 (off10_w L ht) (by omega), fun _ => inb1 (off11_wd ⟨t.val, by omega⟩) (m2 _),
    fun _ => inb3 (off16_wd ⟨t.val, by omega⟩) (m2 _), fun _ => inb2 (off17_w L ht) (by omega), fun _ => inb1 (off18_wd ⟨t.val, by omega⟩) (m2 _),
    fun _ => inb3 (off19_wd ⟨t.val - 1, by omega⟩) (m2 _), fun h => ?_, fun _ => inb1 (off21_wd ⟨t.val - 1, by omega⟩) (m2 _)⟩
  · have := (cond1_w L t).mp h
    exact inb2 (off7_w L this) (by omega)
  · have := (cond7_w L t).mp h
    exact inb2 (off20_w L this ht) (by omega)
theorem chk5_w : k0_chk5 (wd 7) := ⟨inb3 (off22_wd 7) (m2 _), inb1 (off24_wd 7) (m2 _), inb3 (off25_wd 7) (m2 _)⟩
theorem chk6_w (L : grid0.Coords) : k0_chk6 L (w19 8) := inb2 (off23_w L) (by have := wb_lt L; omega)

/-! ## What the next trip carries -/

abbrev q270 (L : grid0.Coords) (t : ℕ) : BitVec 32 :=
  Scalar.select (Scalar.andi (Scalar.andi (Scalar.cmpi .ne (q245 L t) (q255 L t)) (Scalar.xori (Scalar.cmpi .sge (wA t) 7#32) 1#1)) 1#1) (Scalar.addi (w15 t) 1#32) (w15 t)
theorem q270_w (L : grid0.Coords) {t : ℕ} (ht : t < 8) : q270 L t = w15 (t + 1) := by
  unfold q270
  rw [ne_nx L ht]
  exact (by decide : ∀ t : Fin 8, Scalar.select (Scalar.andi (Scalar.andi 1#1 (Scalar.xori (Scalar.cmpi .sge (wA t.val) 7#32) 1#1)) 1#1) (Scalar.addi (w15 t.val) 1#32) (w15 t.val) = w15 (t.val + 1)) ⟨t, ht⟩
abbrev q301 (L : grid0.Coords) (t : ℕ) : BitVec 32 :=
  Scalar.select (Scalar.andi (Scalar.ori (Scalar.cmpi .ne (q245 L t) (q255 L t)) (q244 t)) 1#1) (Scalar.addi (wd t) 1#32) (wd t)
theorem q301_w (L : grid0.Coords) {t : ℕ} (ht : t < 8) : q301 L t = wd (t + 1) := by
  unfold q301
  rw [ne_nx L ht]
  exact (by decide : ∀ t : Fin 8, Scalar.select (Scalar.andi (Scalar.ori 1#1 (q244 t.val)) 1#1) (Scalar.addi (wd t.val) 1#32) (wd t.val) = wd (t.val + 1)) ⟨t, ht⟩
abbrev q310 (L : grid0.Coords) (t : ℕ) : BitVec 1 := Scalar.andi (Scalar.cmpi .ne (q245 L t) (q250 L t)) (Scalar.xori (q243 t) 1#1)
abbrev q315 (L : grid0.Coords) (t : ℕ) : BitVec 32 :=
  Scalar.select (Scalar.andi (q310 L t) 1#1) (Scalar.addi (wd (t - 1)) 1#32) (wd (t - 1))
theorem q315_w (L : grid0.Coords) {t : ℕ} (ht : t < 8) : q315 L t = wd (t + 1 - 1) := by
  unfold q315 q310
  rw [ne_pv L ht]
  exact (by decide : ∀ t : Fin 8, Scalar.select (Scalar.andi (Scalar.andi 1#1 (Scalar.xori (q243 t.val) 1#1)) 1#1) (Scalar.addi (wd (t.val - 1)) 1#32) (wd (t.val - 1)) = wd (t.val + 1 - 1)) ⟨t, ht⟩
abbrev q319 (L : grid0.Coords) (t : ℕ) : BitVec 32 :=
  Scalar.select (Scalar.ori (Scalar.cmpi .ne (q245 L t) (q255 L t)) (q244 t)) (Scalar.addi (wd t) 1#32) (wd t)
theorem q319_w (L : grid0.Coords) {t : ℕ} (ht : t < 8) : q319 L t = wd (t + 1) := by
  unfold q319
  rw [ne_nx L ht]
  exact (by decide : ∀ t : Fin 8, Scalar.select (Scalar.ori 1#1 (q244 t.val)) (Scalar.addi (wd t.val) 1#32) (wd t.val) = wd (t.val + 1)) ⟨t, ht⟩

end Cert.Proof.IT
end
-- ==== Proof.IBias.lean ====
/-
  The bias pipeline's operations, one rule each, and the two inner loops: the fetch of a block of relative positions into
  a half of the word buffer, the load of sixteen words, the table's words at them, the store, the copy of a half out.
-/
module

public import proofs.«01_k».proof.Proof.IOffs

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

variable (d : Dev nD) (L : grid0.Coords)
variable (tb : S65536x128.Idx → Elt F .f32) (ix : S1x32768.Idx → BitVec 32)
variable (rp : S4096x1024.Idx → BitVec 32) (pt : S64.Idx → Elt F .f32)
variable {α : Type} {Q : α → sProp (MT nD τ sig (HIx 1) (Elt F) ℕ UU ℕ)}

/-- A cell of the fetches' pair, of the copies' pair, as the body names it. -/
abbrev inS (o : Fin 1 → ℕ) (h : ∀ a, o a + S1.size a ≤ S2.size a) : DmaSem sig :=
  ((cc0_scoped3.slice (Rect.unit (s := S2) o S1.size h)).squeeze S_ squeezes_S1_S_).sem
abbrev ouS (o : Fin 1 → ℕ) (h : ∀ a, o a + S1.size a ≤ S2.size a) : DmaSem sig :=
  ((cc0_scoped5.slice (Rect.unit (s := S2) o S1.size h)).squeeze S_ squeezes_S1_S_).sem
/-- Cell `b` of each pair. -/
abbrev inC (b : ℕ) : DmaSem sig := if b = 0 then (5 : Fin 22) else (6 : Fin 22)
abbrev ouC (b : ℕ) : DmaSem sig := if b = 0 then (7 : Fin 22) else (8 : Fin 22)

theorem inS_eq {o : Fin 1 → ℕ} {b : ℕ} (ho : o = ![b]) (hb : b < 2) (h) : inS o h = inC b := by
  subst ho
  apply Fin.ext
  show 5 + (S2.rowMajor ((Rect.unit (s := S2) ![b] S1.size h).emb _)).val = _
  rw [Shape.rowMajor_val_one, ValueKit.rect_emb_unit_val]
  have hz : ∀ j : S1.Idx, (j 0).val = 0 := fun j => Nat.lt_one_iff.mp (j 0).isLt
  refine (congrArg (fun n => 5 + (b + n)) (hz _)).trans ?_
  obtain rfl | rfl : b = 0 ∨ b = 1 := by omega
  · rfl
  · rfl
theorem ouS_eq {o : Fin 1 → ℕ} {b : ℕ} (ho : o = ![b]) (hb : b < 2) (h) : ouS o h = ouC b := by
  subst ho
  apply Fin.ext
  show 7 + (S2.rowMajor ((Rect.unit (s := S2) ![b] S1.size h).emb _)).val = _
  rw [Shape.rowMajor_val_one, ValueKit.rect_emb_unit_val]
  have hz : ∀ j : S1.Idx, (j 0).val = 0 := fun j => Nat.lt_one_iff.mp (j 0).isLt
  refine (congrArg (fun n => 7 + (b + n)) (hz _)).trans ?_
  obtain rfl | rfl : b = 0 ∨ b = 1 := by omega
  · rfl
  · rfl

/-- Share `b` of the relative positions; a half of each block buffer at some contents, at block `t`'s. -/
abbrev RP (q : PosShare TreeShare) (b : ℕ) : sProp 𝕄 := rpLoc d ↦{Transfers.shareTokN q b} (rp : Buf (Elt F) (rpLoc d))
def ISf (b : ℕ) : sProp 𝕄 := iprop(∃ f : Buf (Elt F) (biLoc d L), biLoc d L ↦[bsl b]{fullShare} f)
def OSf (b : ℕ) : sProp 𝕄 := iprop(∃ f : Buf (Elt F) (bvLoc d L), bvLoc d L ↦[bsl b]{fullShare} f)
abbrev ISk (b t : ℕ) : sProp 𝕄 := biLoc d L ↦[bsl b]{fullShare} (islot L rp t : Buf (Elt F) (biLoc d L))
abbrev OSk (b t : ℕ) : sProp 𝕄 := bvLoc d L ↦[bsl b]{fullShare} (oslot L pt rp t : Buf (Elt F) (bvLoc d L))
/-- Block `t` of the task's bias rows. -/
def BOf (t : ℕ) : sProp 𝕄 := iprop(∃ f : Buf (Elt F) (boLoc d), boLoc d ↦[bset (8 * wb L + t)]{fullShare} f)
abbrev BOk (t : ℕ) : sProp 𝕄 := boLoc d ↦[bset (8 * wb L + t)]{fullShare} (bias pt rp : Buf (Elt F) (boLoc d))
/-- The staged table. -/
abbrev L8 : sProp 𝕄 := l8Loc d L ↦{fullShare} (pt : Buf (Elt F) (l8Loc d L))

abbrev nI : ℕ := (islotM ![0, 0, 0] (inb3 rfl (by decide))).view.dmaCredit
abbrev nB : ℕ := (oblockM (k0_off4 L) (k0_off4_inb L)).view.dmaCredit

/-- The fetch of block `t` into half `b` in flight; the copy of half `b` out to block `t`. -/
abbrev IF (q : PosShare TreeShare) (b t : ℕ) : sProp 𝕄 :=
  Flight EC (VT d L) (.dma (inC b)) (default : HIx 1) nI iprop(ISk (F := F) d L rp b t ∗ RP (F := F) d rp q b)
abbrev BF (b t : ℕ) : sProp 𝕄 :=
  Flight EC (VT d L) (.dma (ouC b)) (default : HIx 1) (nB L) iprop(BOk d L rp pt t ∗ OSk d L rp pt b t)

theorem fetch_issue (q : PosShare TreeShare) (b t : ℕ) (hb : b < 2) (ht : t < 8)
    {o : Fin 3 → ℕ} (ho : o = ![b, 0, 0]) (h) {o' : Fin 2 → ℕ} (ho' : o' = ![16 * (8 * wb L + t), 0]) (h') {o'' : Fin 1 → ℕ} (ho'' : o'' = ![b]) (h'')
    {kk : PUnit → Prog (TpuEff nD τ sig (Elt F) Λ₀ (VT d L).2) α} {h1 h2 h3} :
    iprop(ISf (F := F) d L b ∗ RP (F := F) d rp q b ∗ c0 d L (inC b))
      ⊢ iprop((IF (F := F) d L rp q b t -∗ wpT d L (kk ⟨⟩) Q)
        -∗ wpT d L (Prog.lift (.enqueueDma (iblockM o' h') (.here (islotM o h)) (.dma (inS o'' h'')) h1 h2 h3) >>= kk) Q) := by
  have hw := wb_lt L
  unfold IF
  rw [show inC b = inS o'' h'' from (inS_eq ho'' hb h'').symm]
  unfold ISf
  iintro ⟨⟨%f, Hs⟩, Hg, Hv⟩ Hk
  have hv : ∀ i ∈ bsl b, (islotM o h).view.write (Elt F) f ((iblockM o' h').view.read (Elt F) (rp : Buf (Elt F) (rpLoc d))) Finset.univ i
      = (islot L rp t : Buf (Elt F) (biLoc d L)) i := by
    intro i hi
    rw [← islotM_set ho h] at hi
    obtain ⟨j, -, rfl⟩ := Finset.mem_map.mp hi
    have hj := islotM_emb ho h j
    have hj' := iblockM_emb ho' h' j
    refine (View.write_emb_of_mem _ _ (Finset.mem_univ j)).trans ?_
    show rp ((iblockM o' h').view.emb j) = rp (mk2 4096 1024 (16 * (8 * wb L + t) + (((islotM o h).view.emb j : S2x16x1024.Idx) 1).val) (((islotM o h).view.emb j : S2x16x1024.Idx) 2).val)
    congr 1
    rw [hj.2.1, hj.2.2]
    exact (eq_mk2 _ hj'.1 hj'.2)
  iapply (dma_step EC 𝒱₀ (VT d L) none (k := kk) (src := iblockM o' h') (dst := islotM o h) (q := Transfers.shareTokN q b)
    (fs := (rp : Buf (Elt F) (rpLoc d))) (Ss := Finset.univ) (Sd := bsl b) (fd := f)
    (islot L rp t : Buf (Elt F) (biLoc d L)) (default : HIx 1) nI rfl (View.dmaCredit_pos _ (by decide))
    (Finset.subset_univ _) (islotM_set ho h).subset hv) $$ [Hs Hg Hv]
  · isplitl [Hg]; · iexact Hg
    isplitl [Hs] <;> iassumption
  iintro HF
  iapply Hk
  iexact HF

theorem fetch_wait (q : PosShare TreeShare) (b t : ℕ) (hb : b < 2) (O : CellTallies nD τ sig (HIx 1))
    {o : Fin 3 → ℕ} (h) {o' : Fin 2 → ℕ} (h') {o'' : Fin 1 → ℕ} (ho'' : o'' = ![b]) (h'') {kk : PUnit → Prog (TpuEff nD τ sig (Elt F) Λ₀ (VT d L).2) α} {h1 h2} :
    iprop(IF (F := F) d L rp q b t ∗ OW (VT d L) O ∗ MW (F := F) d L O)
      ⊢ iprop((iprop((ISk (F := F) d L rp b t ∗ RP (F := F) d rp q b) ∗ c0 d L (inC b) ∗ OW (VT d L) O) -∗ wpT d L (kk ⟨⟩) Q)
        -∗ wpT d L (Prog.lift (.waitDma2 (inS o'' h'') (iblockM o' h') (islotM o h) h1 h2) >>= kk) Q) := by
  unfold IF
  rw [show inC b = inS o'' h'' from (inS_eq ho'' hb h'').symm]
  exact wait_step EC 𝒱₀ (VT d L) none (k := kk) (sem := inS o'' h'') (srcw := iblockM o' h') (dstw := islotM o h) (hsrc := h1) (hdst := h2) (default : HIx 1) (N := nI) rfl

theorem bout_issue (b t : ℕ) (hb : b < 2) (ht : t < 8)
    {o : Fin 3 → ℕ} (ho : o = ![b, 0, 0]) (h) {o' : Fin 2 → ℕ} (ho' : o' = ![16 * (8 * wb L + t), 0]) (h') {o'' : Fin 1 → ℕ} (ho'' : o'' = ![b]) (h'')
    {kk : PUnit → Prog (TpuEff nD τ sig (Elt F) Λ₀ (VT d L).2) α} {h1 h2 h3} :
    iprop(OSk d L rp pt b t ∗ BOf (F := F) d L t ∗ c0 d L (ouC b))
      ⊢ iprop((BF d L rp pt b t -∗ wpT d L (kk ⟨⟩) Q)
        -∗ wpT d L (Prog.lift (.enqueueDma (oslotM o h) (.here (oblockM o' h')) (.dma (ouS o'' h'')) h1 h2 h3) >>= kk) Q) := by
  have hw := wb_lt L
  unfold BF
  rw [show ouC b = ouS o'' h'' from (ouS_eq ho'' hb h'').symm]
  unfold BOf
  iintro ⟨Hs, ⟨%f, Hg⟩, Hv⟩ Hk
  have hv : ∀ i ∈ bset (8 * wb L + t), (oblockM o' h').view.write (Elt F) f ((oslotM o h).view.read (Elt F) (oslot L pt rp t : Buf (Elt F) (bvLoc d L))) Finset.univ i
      = (bias pt rp : Buf (Elt F) (boLoc d)) i := by
    intro i hi
    rw [← oblockM_set ho' h'] at hi
    obtain ⟨j, -, rfl⟩ := Finset.mem_map.mp hi
    have hj := oslotM_emb ho h j
    have hj' := oblockM_emb ho' h' j
    refine (View.write_emb_of_mem _ _ (Finset.mem_univ j)).trans ?_
    show bias pt rp (mk2 4096 1024 (16 * (8 * wb L + t) + (((oslotM o h).view.emb j : S2x16x1024.Idx) 1).val) (((oslotM o h).view.emb j : S2x16x1024.Idx) 2).val) = _
    congr 1
    rw [hj.2.1, hj.2.2]
    exact (eq_mk2 _ hj'.1 hj'.2).symm
  iapply (dma_step EC 𝒱₀ (VT d L) none (k := kk) (src := oslotM o h) (dst := oblockM o' h') (q := fullShare)
    (fs := (oslot L pt rp t : Buf (Elt F) (bvLoc d L))) (Ss := bsl b) (Sd := bset (8 * wb L + t)) (fd := f)
    (bias pt rp : Buf (Elt F) (boLoc d)) (default : HIx 1) (nB L) rfl (View.dmaCredit_pos _ (by decide))
    (oslotM_set ho h).subset (oblockM_set ho' h').subset hv) $$ [Hs Hg Hv]
  · isplitl [Hs]; · iexact Hs
    isplitl [Hg] <;> iassumption
  iintro HF
  iapply Hk
  iexact HF

theorem bout_wait (b t : ℕ) (hb : b < 2) (O : CellTallies nD τ sig (HIx 1))
    {o : Fin 3 → ℕ} (h) {o' : Fin 2 → ℕ} (h') {o'' : Fin 1 → ℕ} (ho'' : o'' = ![b]) (h'') {kk : PUnit → Prog (TpuEff nD τ sig (Elt F) Λ₀ (VT d L).2) α} {h1 h2} :
    iprop(BF d L rp pt b t ∗ OW (VT d L) O ∗ MW (F := F) d L O)
      ⊢ iprop((iprop((BOk d L rp pt t ∗ OSk d L rp pt b t) ∗ c0 d L (ouC b) ∗ OW (VT d L) O) -∗ wpT d L (kk ⟨⟩) Q)
        -∗ wpT d L (Prog.lift (.waitDma2 (ouS o'' h'') (oslotM o h) (oblockM o' h') h1 h2) >>= kk) Q) := by
  unfold BF
  rw [show ouC b = ouS o'' h'' from (ouS_eq ho'' hb h'').symm]
  exact wait_step EC 𝒱₀ (VT d L) none (k := kk) (sem := ouS o'' h'') (srcw := oslotM o h) (dstw := oblockM o' h') (hsrc := h1) (hdst := h2) (default : HIx 1) (N := nB L) rfl

theorem assume_T {P : Prop} {dec : Decidable P} {kk : PLift P → Prog (TpuEff nD τ sig (Elt F) Λ₀ (VT d L).2) α} (h : P) :
    wpT d L (kk ⟨h⟩) Q ⊢ wpT d L (Prog.lift (TpuEff.assume P dec) >>= kk) Q :=
  Entails.of_eq (wp_assume_of 𝒱₀ (VT d L) none Set.univ h).symm

/-! ## Sixteen words -/

/-- The window of sixteen words at row `r`, columns from `16 c`. -/
abbrev rW (o : Fin 2 → ℕ) (h : ∀ a, o a + S1x16.size a ≤ S16x1024.size a) : Rect S16x1024 := Rect.unit (s := S16x1024) o S1x16.size h

theorem load_words (b t r c : ℕ) {o : Fin 3 → ℕ} (ho : o = ![b, 0, 0]) (h) {o' : Fin 2 → ℕ} (ho' : o' = ![r, 16 * c]) (h')
    {kk : (S1x16.Idx → BitVec 32) → Prog (TpuEff nD τ sig (Elt F) Λ₀ (VT d L).2) α} {h1} :
    ISk (F := F) d L rp b t ⊢ iprop((ISk (F := F) d L rp b t -∗ wpT d L (kk fun j => rp (mk2 4096 1024 (16 * (8 * wb L + t) + r) (16 * c + (j 1).val))) Q)
        -∗ wpT d L (Prog.lift (.load (islotM o h) (rW o' h').toLoadRect h1) >>= kk) Q) := by
  iintro Hs Hk
  iapply (wp_load_rect (defs := defs₀ (F := F)) (Q := Q) (hl := h1) 𝒱₀ (VT d L) none Set.univ (m := islotM o h) (r := rW o' h') (k := kk) (S := bsl b) (q := fullShare)
    (f := (islot L rp t : Buf (Elt F) (biLoc d L))) (((View.set_slice _ _).subset.trans (Finset.map_subset_map.mpr (Finset.subset_univ _))).trans (islotM_set ho h).subset)) $$ Hs
  iintro Hs
  have e : ((islotM o h).access (rW o' h')).read (Elt F) (islot L rp t : Buf (Elt F) (biLoc d L))
      = fun j : S1x16.Idx => rp (mk2 4096 1024 (16 * (8 * wb L + t) + r) (16 * c + (j 1).val)) := by
    funext j
    have hj := islotM_emb ho h ((rW o' h').emb j)
    show rp (mk2 4096 1024 (16 * (8 * wb L + t) + (((islotM o h).view.emb ((rW o' h').emb j) : S2x16x1024.Idx) 1).val) (((islotM o h).view.emb ((rW o' h').emb j) : S2x16x1024.Idx) 2).val) = _
    rw [hj.2.1, hj.2.2]
    subst ho'
    have h0 : (j 0).val = 0 := Nat.lt_one_iff.mp (j 0).isLt
    rw [ValueKit.rect_emb_unit_val, ValueKit.rect_emb_unit_val]
    show rp (mk2 4096 1024 (16 * (8 * wb L + t) + (r + (j 0).val)) (16 * c + (j 1).val)) = _
    rw [h0, Nat.add_zero]
  rw [e]
  iapply Hk
  iexact Hs

/-- The table's words at sixteen indices. -/
theorem load_idx (v : IVec S16 32) (hv : ∀ a x, ((![v] : Fin 1 → IVec S16 32) a x).toNat < S64.size a)
    {kk : Vec F S16 .f32 → Prog (TpuEff nD τ sig (Elt F) Λ₀ (VT d L).2) α} {h1} :
    L8 d L pt ⊢ iprop((L8 d L pt -∗ wpT d L (kk fun j => pt (mk1 64 (v j).toNat)) Q)
        -∗ wpT d L (SparseCore.vectorLoadIdx (l8M : Memref sig .scVector .vmem S64 .f32) ![v] hv h1 >>= kk) Q) := by
  iintro Hs Hk
  iapply (SparseCore.wp_vectorLoadIdx 𝒱₀ (VT d L) none Set.univ (base := (l8M : Memref sig .scVector .vmem S64 .f32)) (S := Finset.univ) (q := fullShare)
    (f := (pt : Buf (Elt F) (l8Loc d L))) (k := kk) (Finset.subset_univ _)) $$ Hs
  iintro Hs
  have e : loadIdx ((l8M.access (.whole S64)).read (Elt F) (pt : Buf (Elt F) (l8Loc d L))) ![v] hv = fun j => pt (mk1 64 (v j).toNat) := by
    funext j
    show pt ((l8M.access (.whole S64)).emb _) = _
    congr 1
    refine eq_mk1 _ ?_
    have hh : ∀ x : S64.Idx, ((l8M.access (.whole S64)).emb x : S64.Idx) = x := by
      intro x
      exact Rect.emb_whole_apply S64 x
    rw [hh]
    rfl
  rw [e]
  iapply Hk
  iexact Hs

/-- What the loops have stored in half `b` after `n` groups of sixteen. -/
def PW (b t n : ℕ) : sProp 𝕄 := iprop(∃ f : Buf (Elt F) (bvLoc d L),
  ⌜∀ i : S2x16x1024.Idx, (i 0).val = b → 64 * (i 1).val + (i 2).val / 16 < n → f i = oslot L pt rp t i⌝ ∗ bvLoc d L ↦[bsl b]{fullShare} f)

theorem PW_zero (b t : ℕ) : OSf (F := F) d L b ⊢ PW d L rp pt b t 0 := by
  unfold OSf PW
  iintro ⟨%f, H⟩
  iexists f
  isplitr
  · ipureintro; intro i _ h; exact absurd h (Nat.not_lt_zero _)
  iexact H
theorem PW_full (b t : ℕ) : PW d L rp pt b t 1024 ⊢ OSk d L rp pt b t := by
  unfold PW
  iintro ⟨%f, %hf, H⟩
  iapply (Entails.of_eq (pointsTo_congr (fun i hi => hf i (mem_bsl.mp hi) (by
    have h1 : (i 1).val < 16 := (i 1).isLt
    have h2 : (i 2).val < 1024 := (i 2).isLt
    omega))))
  iexact H

/-- The body's load of the place it is about to store: any words. -/
theorem load_dead (b t n : ℕ) {o : Fin 3 → ℕ} (ho : o = ![b, 0, 0]) (h) {o' : Fin 2 → ℕ} (h')
    {kk : (S1x16.Idx → Elt F .f32) → Prog (TpuEff nD τ sig (Elt F) Λ₀ (VT d L).2) α} {h1} :
    PW d L rp pt b t n ⊢ iprop((∀ w, PW d L rp pt b t n -∗ wpT d L (kk w) Q)
        -∗ wpT d L (Prog.lift (.load (oslotM o h) (rW o' h').toLoadRect h1) >>= kk) Q) := by
  unfold PW
  iintro ⟨%f, %hf, Hs⟩ Hk
  iapply (wp_load_rect 𝒱₀ (VT d L) none Set.univ (m := oslotM o h) (r := rW o' h') (k := kk) (S := bsl b) (q := fullShare)
    (f := f) (((View.set_slice _ _).subset.trans (Finset.map_subset_map.mpr (Finset.subset_univ _))).trans (oslotM_set ho h).subset)) $$ Hs
  iintro Hs
  iapply Hk
  iexists f
  isplitr; · ipureintro; exact hf
  iexact Hs

theorem store_words (b t r c : ℕ) (hr : r < 16) (hc : c < 64) {o : Fin 3 → ℕ} (ho : o = ![b, 0, 0]) (h) {o' : Fin 2 → ℕ} (ho' : o' = ![r, 16 * c]) (h')
    (w : S1x16.Idx → Elt F .f32) (hw : ∀ j, w j = pt (mk1 64 (rp (mk2 4096 1024 (16 * (8 * wb L + t) + r) (16 * c + (j 1).val))).toNat))
    {kk : PUnit → Prog (TpuEff nD τ sig (Elt F) Λ₀ (VT d L).2) α} {h1 h2} :
    PW d L rp pt b t (64 * r + c) ⊢ iprop((PW d L rp pt b t (64 * r + c + 1) -∗ wpT d L (kk ⟨⟩) Q)
        -∗ wpT d L (Prog.lift (.store (oslotM o h) (rW o' h') w Finset.univ h1 h2) >>= kk) Q) := by
  unfold PW
  iintro ⟨%f, %hf, Hs⟩ Hk
  iapply (wp_store 𝒱₀ (VT d L) none Set.univ (m := oslotM o h) (r := rW o' h') (w := w) (Mk := Finset.univ) (k := kk) (S := bsl b)
    (f := f) (((View.setOn_univ _).trans (View.set_slice _ _)).subset.trans ((Finset.map_subset_map.mpr (Finset.subset_univ _)).trans (oslotM_set ho h).subset))) $$ Hs
  iintro Hs
  iapply Hk
  iexists _
  isplitr [Hs]
  rotate_left
  · iexact Hs
  ipureintro
  intro i hb hi
  by_cases hm : i ∈ ((oslotM o h).access (rW o' h')).set
  · obtain ⟨j, -, rfl⟩ := Finset.mem_map.mp hm
    refine (View.write_emb_of_mem (v := (oslotM o h).access (rW o' h')) f w (Finset.mem_univ j)).trans ?_
    have hj := oslotM_emb ho h ((rW o' h').emb j)
    refine (show _ = w j from rfl).trans ((hw j).trans ?_)
    show pt (mk1 64 (rp (mk2 4096 1024 (16 * (8 * wb L + t) + r) (16 * c + (j 1).val))).toNat)
      = pt (mk1 64 (rp (mk2 4096 1024 (16 * (8 * wb L + t) + (((oslotM o h).view.emb ((rW o' h').emb j) : S2x16x1024.Idx) 1).val) (((oslotM o h).view.emb ((rW o' h').emb j) : S2x16x1024.Idx) 2).val)).toNat)
    rw [hj.2.1, hj.2.2]
    subst ho'
    have h0 : (j 0).val = 0 := Nat.lt_one_iff.mp (j 0).isLt
    rw [ValueKit.rect_emb_unit_val, ValueKit.rect_emb_unit_val]
    show _ = pt (mk1 64 (rp (mk2 4096 1024 (16 * (8 * wb L + t) + (r + (j 0).val)) (16 * c + (j 1).val))).toNat)
    rw [h0, Nat.add_zero]
  · rw [View.write_of_not_mem _ _ _ (by rwa [View.setOn_univ])]
    refine hf i hb ?_
    by_contra hn
    apply hm
    have hi0 := hi
    rw [View.set_slice]
    have hsl : i ∈ (oslotM o h).view.set := by rw [oslotM_set ho h]; exact mem_bsl.mpr hb
    obtain ⟨j, -, rfl⟩ := Finset.mem_map.mp hsl
    refine Finset.mem_map_of_mem _ ?_
    have hj := oslotM_emb ho h j
    rw [hj.2.1, hj.2.2] at hi hn
    subst ho'
    refine Rect.mem_set_unit.mpr ?_
    have hj1 : (j 1).val < 1024 := (j 1).isLt
    intro a
    match a with
    | 0 => show r ≤ (j 0).val ∧ (j 0).val < r + 1; omega
    | 1 => show 16 * c ≤ (j 1).val ∧ (j 1).val < 16 * c + 16; omega

end Cert.Proof.IT
end
-- ==== Proof.ITrip.lean ====
/-
  The two halves of a trip of the bias pipeline: the next block's fetch is issued, then this block is awaited, looked up
  and its copy out issued.
-/
module

public import proofs.«01_k».proof.Proof.IBias

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

variable (d : Dev nD) (L : grid0.Coords)
variable (rp : S4096x1024.Idx → BitVec 32) (pt : S64.Idx → Elt F .f32)
variable {α : Type} {Q : α → sProp (MT nD τ sig (HIx 1) (Elt F) ℕ UU ℕ)}

/-- A counted loop of the task, by an invariant. -/
theorem for_T {σ : Type} (l : Scf.Loop 32) (hok : l.OK) (init : σ) (body : Fin l.trips → σ → Prog (TpuEff nD τ sig (Elt F) Λ₀ (VT d L).2) σ)
    (I : ℕ → σ → sProp 𝕄) (hbody : ∀ (k : Fin l.trips) (acc : σ), I k.val acc ⊢ wpT d L (body k acc) (I (k.val + 1)))
    {kk : σ → Prog (TpuEff nD τ sig (Elt F) Λ₀ (VT d L).2) α} :
    I 0 init ⊢ iprop((∀ acc, I l.trips acc -∗ wpT d L (kk acc) Q) -∗ wpT d L (Scf.Loop.for l hok init body >>= kk) Q) :=
  Scf.wp_for_bind frame (wpE (defs₀ (F := F)) 𝒱₀ (VT d L) none) Set.univ l.lb l.ub l.st hok init body I hbody

/-- Half `b` of the word buffer free: its elements, its share of the positions, its cell. -/
def Fr (q : PosShare TreeShare) (b : ℕ) : sProp 𝕄 := iprop(ISf (F := F) d L b ∗ RP (F := F) d rp q b ∗ c0 d L (inC b))
/-- The state of the half of block `n`: its fetch in flight, or free past the last block. -/
def Cur (q : PosShare TreeShare) (n : ℕ) : sProp 𝕄 := if n < 8 then IF (F := F) d L rp q (n % 2) n else Fr (F := F) d L rp q (n % 2)

theorem trips2_eq : k0_t2_loop.trips = 16 := by decide
theorem trips3_eq : k0_t3_loop.trips = 64 := by decide

/-- The words loaded lie in the table when they lie in it before their row is flattened. -/
theorem chk3_w (ld : S1x16.Idx → BitVec 32) (h : ∀ j, (ld j).toNat < 64) : k0_chk3 (shapeCast S16 ld shapeCasts_S1x16_S16) := by
  intro a x
  obtain rfl : a = 0 := Subsingleton.elim _ _
  exact h _

/-- Flattening a row, looking it up and folding it back looks up each word. -/
theorem words_eq {g : S1x16.Idx → BitVec 32} (j : S1x16.Idx) :
    shapeCast S1x16 (fun i : S16.Idx => pt (mk1 64 ((shapeCast S16 g shapeCasts_S1x16_S16) i).toNat)) shapeCasts_S16_S1x16 j = pt (mk1 64 (g j).toNat) := by
  have e := congrFun (shapeCast_shapeCast (fun j => pt (mk1 64 (g j).toNat)) shapeCasts_S1x16_S16 shapeCasts_S16_S1x16) j
  exact e

theorem part1_run (q : PosShare TreeShare) (t : Fin k0_t1_loop.trips) :
    Fr (F := F) d L rp q ((t.val + 1) % 2)
      ⊢ wpT d L (k0_part1 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 (Vw L) 0#32 1#32 t (w15 t.val) (wd t.val) (wd t.val) (wd (t.val - 1)) (w19 t.val))
        fun r => iprop(⌜r = ⟨chk4_w (by have := t_lt t; omega), chk2_w (by have := t_lt t; omega), chk1_w L t, wA t.val, q243 t.val, q244 t.val, q245 L t.val, q250 L t.val, q255 L t.val, q270 L t.val,
            Scalar.cmpi .ne (q245 L t.val) (q250 L t.val)⟩⌝ ∗ Cur (F := F) d L rp q (t.val + 1)) := by
  have ht := t_lt t
  unfold k0_part1
  dsimp only
  iintro H
  iapply (assume_T d L (chk4_w (by omega)))
  iapply (assume_T d L (chk2_w (by omega)))
  iapply (assume_T d L (chk1_w L t))
  by_cases h : t.val < 7
  · rw [dif_pos ((cond1_w L t).mpr h)]
    unfold Fr Cur
    rw [if_pos (by omega)]
    icases H with ⟨Hs, Hr, Hc⟩
    iapply (fetch_issue d L rp q ((t.val + 1) % 2) (t.val + 1) (m2 _) (by omega)
      ((off6_wd ⟨min (t.val + 1) 8, by omega⟩).trans (by simp only [show min (t.val + 1) 8 = t.val + 1 by omega])) _ (off7_w L h) _
      ((off8_wd ⟨min (t.val + 1) 8, by omega⟩).trans (by simp only [show min (t.val + 1) 8 = t.val + 1 by omega])) _) $$ [Hs Hr Hc]
    · isplitl [Hs]; · iexact Hs
      isplitl [Hr] <;> iassumption
    iintro HF
    iapply (wpT_pure d L)
    isplitr; · ipureintro; rfl
    iexact HF
  · rw [dif_neg (fun e => h ((cond1_w L t).mp e))]
    unfold Cur
    rw [if_neg (by omega)]
    iapply (wpT_pure d L)
    isplitr; · ipureintro; rfl
    iexact H

theorem part2_run (hrp : ∀ j, (rp j).toNat < 64) (q : PosShare TreeShare) (O : CellTallies nD τ sig (HIx 1)) (t : Fin k0_t1_loop.trips) :
    iprop(MW (F := F) d L O ∗ IF (F := F) d L rp q (t.val % 2) t.val ∗ OSf (F := F) d L (t.val % 2) ∗ c0 d L (ouC (t.val % 2)) ∗ BOf (F := F) d L t.val ∗ L8 d L pt ∗ OW (VT d L) O)
      ⊢ wpT d L (k0_part2 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 t (w15 t.val) (wd t.val) (wd t.val) (wd (t.val - 1)) (w19 t.val)
          (chk4_w (by have := t_lt t; omega)) (chk2_w (by have := t_lt t; omega)) (chk1_w L t) (wA t.val) (q243 t.val) (q244 t.val) (q245 L t.val) (q250 L t.val) (q255 L t.val)
            (Scalar.cmpi .ne (q245 L t.val) (q250 L t.val)))
        fun r => iprop(⌜r = ⟨q301 L t.val, q310 L t.val⟩⌝ ∗ Fr (F := F) d L rp q (t.val % 2) ∗ BF d L rp pt (t.val % 2) t.val ∗ L8 d L pt ∗ OW (VT d L) O) := by
  have ht := t_lt t
  unfold k0_part2
  dsimp only
  iintro ⟨#Hmw, HF, Ho, Hc, Hb, Hl, HO⟩
  rw [dif_pos (cond2_w L t)]
  iapply (fetch_wait d L rp q (t.val % 2) t.val (m2 _) O _ _ (off11_wd ⟨t.val, by omega⟩) _) $$ [HF HO]
  · isplitl [HF]; · iexact HF
    isplitl [HO]; · iexact HO
    iexact Hmw
  iintro ⟨⟨Hi, Hr⟩, Hci, HO⟩
  rw [ite_self]
  ihave Ho := (PW_zero d L rp pt (t.val % 2) t.val) $$ Ho
  iapply (for_T d L _ _ _ _ (fun n _ => iprop(ISk (F := F) d L rp (t.val % 2) t.val ∗ L8 d L pt ∗ PW d L rp pt (t.val % 2) t.val (64 * n))) ?body) $$ [Hi Hl Ho]
  case body =>
    intro t2 _
    iintro ⟨Hi, Hl, Ho⟩
    have h2 : t2.val < 16 := lt_of_lt_of_eq t2.isLt trips2_eq
    iapply (for_T d L _ _ _ _ (fun n _ => iprop(ISk (F := F) d L rp (t.val % 2) t.val ∗ L8 d L pt ∗ PW d L rp pt (t.val % 2) t.val (64 * t2.val + n))) ?body2) $$ [Hi Hl Ho]
    case body2 =>
      intro t3 _
      have h3 : t3.val < 64 := lt_of_lt_of_eq t3.isLt trips3_eq
      iintro ⟨Hi, Hl, Ho⟩
      iapply (load_words d L rp (t.val % 2) t.val t2.val t3.val (off12_wd ⟨t.val, by omega⟩) _ (Gen.k0_off13_eq t2 t3) _) $$ Hi
      iintro Hi
      iapply (assume_T d L (chk3_w _ (fun j => hrp _)))
      iapply (load_idx d L pt _ _) $$ Hl
      iintro Hl
      iapply (load_dead d L rp pt (t.val % 2) t.val (64 * t2.val + t3.val) (off14_wd ⟨t.val, by omega⟩) _ _) $$ Ho
      iintro %_ Ho
      iapply (store_words d L rp pt (t.val % 2) t.val t2.val t3.val h2 h3 (off14_wd ⟨t.val, by omega⟩) _ (Gen.k0_off15_eq t2 t3) _ _ (words_eq _)) $$ Ho
      iintro Ho
      iapply (wpT_pure d L)
      isplitl [Hi]; · iexact Hi
      isplitl [Hl] <;> iassumption
    · isplitl [Hi]; · iexact Hi
      isplitl [Hl] <;> iassumption
    iintro %_ ⟨Hi, Hl, Ho⟩
    iapply (wpT_pure d L)
    isplitl [Hi]; · iexact Hi
    isplitl [Hl]; · iexact Hl
    rw [show 64 * (t2.val + 1) = 64 * t2.val + k0_t3_loop.trips by rw [trips3_eq]; omega]
    iexact Ho
  · isplitl [Hi]; · iexact Hi
    isplitl [Hl] <;> iassumption
  iintro %_ ⟨Hi, Hl, Ho⟩
  rw [show 64 * k0_t2_loop.trips = 1024 by rw [trips2_eq]]
  ihave Ho := (PW_full d L rp pt (t.val % 2) t.val) $$ Ho
  rw [ite_self, dif_pos (cond5_w L t), ite_self]
  iapply (bout_issue d L rp pt (t.val % 2) t.val (m2 _) ht (off16_wd ⟨t.val, by omega⟩) _ (off17_w L ht) _ (off18_wd ⟨t.val, by omega⟩) _) $$ [Ho Hb Hc]
  · isplitl [Ho]; · iexact Ho
    isplitl [Hb] <;> iassumption
  iintro HF
  iapply (wpT_pure d L)
  isplitr; · ipureintro; rfl
  isplitl [Hi Hr Hci]
  · unfold Fr ISf
    isplitl [Hi]; · iexists _; iexact Hi
    isplitl [Hr] <;> iassumption
  isplitl [HF]; · iexact HF
  isplitl [Hl] <;> iassumption

end Cert.Proof.IT
end
-- ==== Proof.ILoop.lean ====
/-
  The bias pipeline of one vector subcore: its eight trips by an invariant, and the loop with its first fetch.
-/
module

public import proofs.«01_k».proof.Proof.ITrip

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

variable (d : Dev nD) (L : grid0.Coords)
variable (rp : S4096x1024.Idx → BitVec 32) (pt : S64.Idx → Elt F .f32)
variable {α : Type} {Q : α → sProp (MT nD τ sig (HIx 1) (Elt F) ℕ UU ℕ)}

/-- A run followed by the rest, from the run's own post. -/
theorem wpT_bind {β : Type} {p : Prog (TpuEff nD τ sig (Elt F) Λ₀ (VT d L).2) β} {R : β → sProp 𝕄}
    {kk : β → Prog (TpuEff nD τ sig (Elt F) Λ₀ (VT d L).2) α} :
    wpT d L p R ⊢ iprop((∀ r, R r -∗ wpT d L (kk r) Q) -∗ wpT d L (p >>= kk) Q) := by
  unfold wpT
  iintro H Hk
  rw [wp_bind]
  iapply wp_wand_r
  isplitl [H]
  · iexact H
  iintro %r Hr
  iapply Hk
  iexact Hr

/-- The copy out of the block before `t`: nothing yet before the first trip. -/
def Prev (t : ℕ) : sProp 𝕄 := if t = 0 then iprop(OSf (F := F) d L 1 ∗ c0 d L (ouC 1)) else BF d L rp pt ((t - 1) % 2) (t - 1)
/-- The blocks written and awaited before trip `t`. -/
def Done (t : ℕ) : sProp 𝕄 := bigSep (Finset.range (t - 1)) fun k => BOk d L rp pt k
/-- The blocks not yet written before trip `t`. -/
def Todo (t : ℕ) : sProp 𝕄 := bigSep (Finset.Ico t 8) fun k => BOf (F := F) d L k

theorem todo_take {t : ℕ} (ht : t < 8) : Todo (F := F) d L t ⊢ iprop(BOf (F := F) d L t ∗ Todo (F := F) d L (t + 1)) := by
  unfold Todo
  rw [← Finset.insert_Ico_add_one_left_eq_Ico ht, bigSep_insert (by simp)]
  exact .rfl

theorem done_put {t : ℕ} (ht : t ≠ 0) : iprop(BOk d L rp pt (t - 1) ∗ Done d L rp pt t) ⊢ Done d L rp pt (t + 1) := by
  unfold Done
  obtain ⟨n, rfl⟩ := Nat.exists_eq_succ_of_ne_zero ht
  show iprop(BOk d L rp pt n ∗ bigSep (Finset.range n) _) ⊢ bigSep (Finset.range (n + 1)) _
  rw [Finset.range_add_one, bigSep_insert (by simp)]
  exact .rfl

abbrev Acc : Type := BitVec 32 × BitVec 32 × BitVec 32 × BitVec 32 × BitVec 32
/-- The loop's words at trip `t`. -/
def accAt (t : ℕ) : Acc := (w15 t, wd t, wd t, wd (t - 1), w19 t)

/-- Before trip `t`: its fetch in flight, the other half free, the copy before it in flight. -/
def Inv (q : PosShare TreeShare) (O : CellTallies nD τ sig (HIx 1)) (t : ℕ) (acc : Acc) : sProp 𝕄 :=
  iprop(⌜acc = accAt t⌝ ∗ MW (F := F) d L O ∗ Cur (F := F) d L rp q t ∗ Fr (F := F) d L rp q ((t + 1) % 2) ∗ OSf (F := F) d L (t % 2) ∗ c0 d L (ouC (t % 2))
    ∗ Prev d L rp pt t ∗ Done d L rp pt t ∗ Todo (F := F) d L t ∗ L8 d L pt ∗ OW (VT d L) O)

/-- The loop at its end: every block but the last awaited, the last in flight. -/
def Fin8 (q : PosShare TreeShare) (O : CellTallies nD τ sig (HIx 1)) : sProp 𝕄 :=
  iprop(Fr (F := F) d L rp q 0 ∗ Fr (F := F) d L rp q 1 ∗ OSf (F := F) d L 0 ∗ c0 d L (ouC 0) ∗ BF d L rp pt 1 7
    ∗ (bigSep (Finset.range 7) fun k => BOk d L rp pt k) ∗ L8 d L pt ∗ OW (VT d L) O)

theorem part11_run (hrp : ∀ j, (rp j).toNat < 64) (q : PosShare TreeShare) (O : CellTallies nD τ sig (HIx 1)) :
    iprop(MW (F := F) d L O ∗ Fr (F := F) d L rp q 0 ∗ Fr (F := F) d L rp q 1 ∗ OSf (F := F) d L 0 ∗ c0 d L (ouC 0) ∗ OSf (F := F) d L 1 ∗ c0 d L (ouC 1)
        ∗ Todo (F := F) d L 0 ∗ L8 d L pt ∗ OW (VT d L) O)
      ⊢ wpT d L (k0_part11 (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5 (Vw L) (Scalar.addi 0#32 (Vw L)) 1#32)
        fun r => iprop(⌜r.1 = wd 7 ∧ r.2.1 = w19 8⌝ ∗ Fin8 d L rp pt q O) := by
  unfold k0_part11
  dsimp only
  iintro ⟨#Hmw, Hf0, Hf1, Ho0, Hc0, Ho1, Hc1, Htd, Hl, HO⟩
  unfold Fr
  icases Hf0 with ⟨Hs, Hr, Hc⟩
  iapply (fetch_issue d L rp q 0 0 (by decide) (by decide) Gen.k0_off3_eq _ (off4_w L) _ Gen.k0_off5_eq _) $$ [Hs Hr Hc]
  · isplitl [Hs]; · iexact Hs
    isplitl [Hr] <;> iassumption
  iintro HF
  iapply (for_T d L _ _ _ _ (Inv d L rp pt q O) ?trip) $$ [HF Hf1 Ho0 Hc0 Ho1 Hc1 Htd Hl HO]
  case trip =>
    intro t acc
    have ht := t_lt t
    unfold Inv
    iintro ⟨%hacc, #Hmw, HF, Hf, Ho, Hc, Hp, Hd, Htd, Hl, HO⟩
    subst hacc
    unfold accAt
    dsimp only
    ihave Htd := (todo_take d L ht) $$ Htd
    icases Htd with ⟨Hb, Htd⟩
    ihave HF := (show Cur (F := F) d L rp q t.val ⊢ IF (F := F) d L rp q (t.val % 2) t.val by unfold Cur; rw [if_pos ht]) $$ HF
    iapply (wpT_bind d L) $$ [Hf]
    · iapply (part1_run d L rp q t)
      iexact Hf
    iintro %r ⟨%hr, Hcur⟩
    subst hr
    dsimp only
    iapply (wpT_bind d L) $$ [HF Ho Hc Hb Hl HO]
    · iapply (part2_run d L rp pt hrp q O t)
      isplitr; · iexact Hmw
      isplitl [HF]; · iexact HF
      isplitl [Ho]; · iexact Ho
      isplitl [Hc]; · iexact Hc
      isplitl [Hb]; · iexact Hb
      isplitl [Hl] <;> iassumption
    iintro %r ⟨%hr, Hf, HB, Hl, HO⟩
    subst hr
    dsimp only
    have e2 : (t.val + 1 + 1) % 2 = t.val % 2 := by omega
    have hacc' : (q270 L t.val, q319 L t.val, q301 L t.val, q315 L t.val, nxw (w19 t.val)) = accAt (t.val + 1) := by
      rw [q270_w L ht, q319_w L ht, q301_w L ht, q315_w L ht, nxw_w ⟨t.val, ht⟩]; rfl
    by_cases h : 0 < t.val
    · rw [dif_pos ((cond7_w L t).mpr h)]
      have e3 : (t.val - 1) % 2 = (t.val + 1) % 2 := by omega
      ihave Hp := (show Prev d L rp pt t.val ⊢ BF d L rp pt ((t.val + 1) % 2) (t.val - 1) by unfold Prev; rw [if_neg (by omega), e3]) $$ Hp
      iapply (bout_wait d L rp pt ((t.val + 1) % 2) (t.val - 1) (m2 _) O _ _
        ((off21_wd ⟨t.val - 1, by omega⟩).trans (by simp only [e3])) _) $$ [Hp HO]
      · isplitl [Hp]; · iexact Hp
        isplitl [HO]; · iexact HO
        iexact Hmw
      iintro ⟨⟨Hk, Hs⟩, Hc, HO⟩
      iapply (wpT_pure d L)
      isplitr; · ipureintro; exact hacc'
      isplitr; · iexact Hmw
      isplitl [Hcur]; · iexact Hcur
      isplitl [Hf]; · rw [e2]; iexact Hf
      isplitl [Hs]; · unfold OSf; iexists _; iexact Hs
      isplitl [Hc]; · iexact Hc
      isplitl [HB]; · unfold Prev; rw [if_neg (by omega), Nat.add_sub_cancel]; iexact HB
      isplitl [Hk Hd]
      · iapply (done_put d L rp pt (by omega))
        isplitl [Hk] <;> iassumption
      isplitl [Htd]; · iexact Htd
      isplitl [Hl] <;> iassumption
    · rw [dif_neg (fun e => h ((cond7_w L t).mp e))]
      have h0 : t.val = 0 := by omega
      ihave Hp := (show Prev d L rp pt t.val ⊢ iprop(OSf (F := F) d L ((t.val + 1) % 2) ∗ c0 d L (ouC ((t.val + 1) % 2))) by
        unfold Prev; rw [if_pos h0, h0]) $$ Hp
      icases Hp with ⟨Hs, Hc⟩
      iapply (wpT_pure d L)
      isplitr; · ipureintro; exact hacc'
      isplitr; · iexact Hmw
      isplitl [Hcur]; · iexact Hcur
      isplitl [Hf]; · rw [e2]; iexact Hf
      isplitl [Hs]; · iexact Hs
      isplitl [Hc]; · iexact Hc
      isplitl [HB]; · unfold Prev; rw [if_neg (by omega), Nat.add_sub_cancel]; iexact HB
      isplitl [Hd]
      · have e4 : Done d L rp pt t.val = Done d L rp pt (t.val + 1) := by rw [h0]; rfl
        rw [← e4]; iexact Hd
      isplitl [Htd]; · iexact Htd
      isplitl [Hl] <;> iassumption
  · unfold Inv
    isplitr; · ipureintro; rfl
    isplitr; · iexact Hmw
    isplitl [HF]; · unfold Cur; rw [if_pos (by decide)]; iexact HF
    isplitl [Hf1]; · unfold Fr; iexact Hf1
    isplitl [Ho0]; · iexact Ho0
    isplitl [Hc0]; · iexact Hc0
    isplitl [Ho1 Hc1]
    · unfold Prev; rw [if_pos rfl]
      isplitl [Ho1] <;> iassumption
    isplitr
    · unfold Done
      rw [show Finset.range (0 - 1) = ∅ from rfl, bigSep_empty]
      iempintro
    isplitl [Htd]; · iexact Htd
    isplitl [Hl] <;> iassumption
  iintro %acc H
  rw [trips_eq]
  unfold Inv
  icases H with ⟨%hacc, _, Hcur, Hf, Ho, Hc, Hp, Hd, _, Hl, HO⟩
  subst hacc
  unfold accAt
  dsimp only
  iapply (assume_T d L (chk6_w L))
  iapply (assume_T d L chk5_w)
  iapply (wpT_pure d L)
  isplitr; · ipureintro; exact ⟨rfl, rfl⟩
  unfold Fin8
  isplitl [Hcur]
  · iapply (show Cur (F := F) d L rp q 8 ⊢ Fr (F := F) d L rp q 0 from Entails.of_eq (if_neg (by decide)))
    iexact Hcur
  isplitl [Hf]; · iexact Hf
  isplitl [Ho]; · iexact Ho
  isplitl [Hc]; · iexact Hc
  isplitl [Hp]
  · iapply (show Prev d L rp pt 8 ⊢ BF d L rp pt 1 7 from Entails.of_eq (if_neg (by decide)))
    iexact Hp
  isplitl [Hd]; · unfold Done; iexact Hd
  isplitl [Hl] <;> iassumption

end Cert.Proof.IT
end
-- ==== Proof.ITile.lean ====
/-
  One vector subcore's task run whole: the gathered rows' parts in a row, the bias pipeline, its last wait.
-/
module

public import proofs.«01_k».proof.Proof.ILoop

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

variable (d : Dev nD) (L : grid0.Coords)
variable (tb : S65536x128.Idx → Elt F .f32) (ix : S1x32768.Idx → BitVec 32) (rp : S4096x1024.Idx → BitVec 32) (pt : S64.Idx → Elt F .f32)

/-- Eight pieces one by one. -/
theorem b8 (Φ : ℕ → sProp 𝕄) : (bigSep (Finset.range 8) Φ : sProp 𝕄) = iprop(Φ 0 ∗ Φ 1 ∗ Φ 2 ∗ Φ 3 ∗ Φ 4 ∗ Φ 5 ∗ Φ 6 ∗ Φ 7) := by
  rw [show Finset.range 8 = {0, 1, 2, 3, 4, 5, 6, 7} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem r8 (Φ : ℕ → sProp 𝕄) : iprop(Φ 7 ∗ bigSep (Finset.range 7) Φ) ⊢ (bigSep (Finset.range 8) Φ : sProp 𝕄) := by
  rw [show Finset.range 8 = insert 7 (Finset.range 7) by decide, SparseCore.bigSep_insert' (by decide)]

theorem kernel_run (hix : ∀ j, (ix j).toNat < 65536) (hrp : ∀ j, (rp j).toNat < 64) (q qr qp qi : PosShare TreeShare) (O : CellTallies nD τ sig (HIx 1))
    (f0 f1 : Buf (Elt F) (l10Loc d L)) (f8 : Buf (Elt F) (l8Loc d L)) (f9 : Buf (Elt F) (l9Loc d L)) (fo : Buf (Elt F) (goLoc d)) :
    iprop(MW (F := F) d L O ∗ (ptLoc d ↦{qp} (pt : Buf (Elt F) (ptLoc d))) ∗ (ixLoc d ↦{qi} (ix : Buf (Elt F) (ixLoc d))) ∗ (l8Loc d L ↦{fullShare} f8) ∗ (l9Loc d L ↦{fullShare} f9) ∗ c0 d L cc0_scoped0.sem ∗ c0 d L cc0_scoped1.sem ∗ SLf d L 0 f0 ∗ SLf d L 1 f1 ∗ TB d tb q 0 ∗ c0 d L cc0_scratch3.sem ∗ TB d tb q 1 ∗ c0 d L cc0_scratch4.sem ∗ c0 d L cc0_scratch5.sem ∗ (bigSep (Finset.range 8) fun k => GOf d L k fo) ∗ Fr (F := F) d L rp qr 0 ∗ Fr (F := F) d L rp qr 1 ∗ OSf (F := F) d L 0 ∗ c0 d L (ouC 0) ∗ OSf (F := F) d L 1 ∗ c0 d L (ouC 1) ∗ Todo (F := F) d L 0 ∗ OW (VT d L) O)
      ⊢ wpT d L (cc0_sc_kernel (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5)
        fun _ => iprop((ptLoc d ↦{qp} (pt : Buf (Elt F) (ptLoc d))) ∗ (ixLoc d ↦{qi} (ix : Buf (Elt F) (ixLoc d))) ∗ L8 d L pt ∗ (l9Loc d L ↦{fullShare} (lst L ix : Buf (Elt F) (l9Loc d L))) ∗ c0 d L cc0_scoped0.sem ∗ c0 d L cc0_scoped1.sem ∗ SLk d L tb ix 0 6 ∗ SLk d L tb ix 1 7 ∗ TB d tb q 0 ∗ c0 d L cc0_scratch3.sem ∗ TB d tb q 1 ∗ c0 d L cc0_scratch4.sem ∗ c0 d L cc0_scratch5.sem ∗ (bigSep (Finset.range 8) fun k => GOk d L tb ix k) ∗ Fr (F := F) d L rp qr 0 ∗ Fr (F := F) d L rp qr 1 ∗ OSf (F := F) d L 0 ∗ c0 d L (ouC 0) ∗ OSf (F := F) d L 1 ∗ c0 d L (ouC 1) ∗ (bigSep (Finset.range 8) fun k => BOk d L rp pt k) ∗ OW (VT d L) O) := by
  unfold cc0_sc_kernel
  dsimp only
  iintro ⟨#Hmw, H0, H1, H2, H3, H4, H5, H6, H7, H8, H9, H10, H11, H12, HG, H13, H14, H15, H16, H17, H18, H19, H20⟩
  ihave HG := (Entails.of_eq (b8 (fun k => GOf d L k fo))) $$ HG
  icases HG with ⟨H21, H22, H23, H24, H25, H26, H27, H28⟩
  iapply (wpT_bind d L) $$ [H0 H1 H2 H3 H4 H5 H6 H7 H8 H9 H10 H11 H20]
  · iapply (part3_run (d := d) (L := L) (tb := tb) (ix := ix) (pt := pt) hix q O f0 f1 qp qi f8 f9)
    isplitr; · iexact Hmw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H20
  iintro %r ⟨%hr, H0, H1, H29, H30, H4, H5, H20, H31, H32, H8, H33, H9⟩
  subst hr
  dsimp only
  iapply (wpT_bind d L) $$ [H12 H21 H20 H31 H32 H8 H33 H9]
  · iapply (part4_run (d := d) (L := L) (tb := tb) (ix := ix) hix q O fo _)
    isplitr; · iexact Hmw
    isplitl [H12]; · iexact H12
    isplitl [H21]; · iexact H21
    isplitl [H20]; · iexact H20
    isplitl [H31]; · iexact H31
    isplitl [H32]; · iexact H32
    isplitl [H8]; · iexact H8
    isplitl [H33]; · iexact H33
    iexact H9
  iintro %_ ⟨H20, H34, H12, H35, H36, H10, H37, H11⟩
  iapply (wpT_bind d L) $$ [H22 H23 H20 H12 H35 H36 H10 H37 H11]
  · iapply (part5_run (d := d) (L := L) (tb := tb) (ix := ix) hix q O fo _)
    isplitr; · iexact Hmw
    isplitl [H22]; · iexact H22
    isplitl [H23]; · iexact H23
    isplitl [H20]; · iexact H20
    isplitl [H12]; · iexact H12
    isplitl [H35]; · iexact H35
    isplitl [H36]; · iexact H36
    isplitl [H10]; · iexact H10
    isplitl [H37]; · iexact H37
    iexact H11
  iintro %_ ⟨H20, H38, H39, H8, H33, H9, H40⟩
  iapply (wpT_bind d L) $$ [H24 H20 H39 H8 H33 H9 H40]
  · iapply (part6_run (d := d) (L := L) (tb := tb) (ix := ix) hix q O fo _)
    isplitr; · iexact Hmw
    isplitl [H24]; · iexact H24
    isplitl [H20]; · iexact H20
    isplitl [H39]; · iexact H39
    isplitl [H8]; · iexact H8
    isplitl [H33]; · iexact H33
    isplitl [H9]; · iexact H9
    iexact H40
  iintro %_ ⟨H20, H41, H42, H10, H37, H11, H43⟩
  iapply (wpT_bind d L) $$ [H25 H20 H42 H10 H37 H11 H43]
  · iapply (part7_run (d := d) (L := L) (tb := tb) (ix := ix) hix q O fo _)
    isplitr; · iexact Hmw
    isplitl [H25]; · iexact H25
    isplitl [H20]; · iexact H20
    isplitl [H42]; · iexact H42
    isplitl [H10]; · iexact H10
    isplitl [H37]; · iexact H37
    isplitl [H11]; · iexact H11
    iexact H43
  iintro %_ ⟨H20, H44, H45, H8, H33, H9, H46⟩
  iapply (wpT_bind d L) $$ [H26 H20 H45 H8 H33 H9 H46]
  · iapply (part8_run (d := d) (L := L) (tb := tb) (ix := ix) hix q O fo _)
    isplitr; · iexact Hmw
    isplitl [H26]; · iexact H26
    isplitl [H20]; · iexact H20
    isplitl [H45]; · iexact H45
    isplitl [H8]; · iexact H8
    isplitl [H33]; · iexact H33
    isplitl [H9]; · iexact H9
    iexact H46
  iintro %_ ⟨H20, H47, H48, H10, H37, H11, H49, H50, H12⟩
  iapply (wpT_bind d L) $$ [H27 H20 H48 H10 H37 H11 H50 H12]
  · iapply (part9_run (d := d) (L := L) (tb := tb) (ix := ix) hix q O fo _)
    isplitr; · iexact Hmw
    isplitl [H27]; · iexact H27
    isplitl [H20]; · iexact H20
    isplitl [H48]; · iexact H48
    isplitl [H10]; · iexact H10
    isplitl [H37]; · iexact H37
    isplitl [H11]; · iexact H11
    isplitl [H50]; · iexact H50
    iexact H12
  iintro %_ ⟨H20, H8, H33, H9, H51, H52, H12, H53, H10, H37, H11⟩
  iapply (wpT_bind d L) $$ [H28 H20 H12 H53]
  · iapply (part10_run (d := d) (L := L) (tb := tb) (ix := ix) hix q O fo _ _ _)
    isplitr; · iexact Hmw
    isplitl [H28]; · iexact H28
    isplitl [H20]; · iexact H20
    isplitl [H12]; · iexact H12
    iexact H53
  iintro %r ⟨%hr, H20, H54, H53, H12⟩
  subst hr
  dsimp only
  iapply (wpT_bind d L) $$ [H13 H14 H15 H16 H17 H18 H19 H29 H20]
  · iapply (part11_run d L rp pt hrp qr O)
    isplitr; · iexact Hmw
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H29]; · iexact H29
    iexact H20
  unfold Fin8
  iintro %r ⟨%hr, H13, H14, H15, H16, H55, H56, H29, H20⟩
  obtain ⟨x3, x4, h6, h5, y1, y2, y3, y4⟩ := r
  obtain ⟨hx, hy⟩ := hr
  dsimp only at hx hy
  subst hx; subst hy
  dsimp only
  iapply (bout_wait d L rp pt 1 7 (by decide) O _ _ (off24_wd ⟨7, by decide⟩) _) $$ [H55 H20]
  · isplitl [H55]; · iexact H55
    isplitl [H20]; · iexact H20
    iexact Hmw
  iintro ⟨⟨Hb7, H17⟩, H18, H20⟩
  iapply (wpT_pure d L)
  isplitl [H0]; · iexact H0
  isplitl [H1]; · iexact H1
  isplitl [H29]; · iexact H29
  isplitl [H30 H33 H37]
  · iapply (l9_toks d L ix).2
    isplitl [H30]; · iexact H30
    isplitl [H33]; · iexact H33
    iexact H37
  isplitl [H4]; · iexact H4
  isplitl [H5]; · iexact H5
  isplitl [H52]; · iexact H52
  isplitl [H53]; · iexact H53
  isplitl [H8]; · iexact H8
  isplitl [H9]; · iexact H9
  isplitl [H10]; · iexact H10
  isplitl [H11]; · iexact H11
  isplitl [H12]; · iexact H12
  isplitl [H34 H38 H41 H44 H47 H49 H51 H54]
  · iapply (Entails.of_eq (b8 (fun k => GOk d L tb ix k)).symm)
    isplitl [H34]; · iexact H34
    isplitl [H38]; · iexact H38
    isplitl [H41]; · iexact H41
    isplitl [H44]; · iexact H44
    isplitl [H47]; · iexact H47
    isplitl [H49]; · iexact H49
    isplitl [H51]; · iexact H51
    iexact H54
  isplitl [H13]; · iexact H13
  isplitl [H14]; · iexact H14
  isplitl [H15]; · iexact H15
  isplitl [H16]; · iexact H16
  isplitl [H17]; · unfold OSf; iexists _; iexact H17
  isplitl [H18]; · iexact H18
  isplitl [Hb7 H56]
  · iapply (r8 (fun k => BOk d L rp pt k))
    isplitl [Hb7]; · iexact Hb7
    iexact H56
  iexact H20

end Cert.Proof.IT
end
-- ==== Proof.ITask.lean ====
/-
  One vector subcore's task from what the launch deals it to what it hands back.
-/
module

public import proofs.«01_k».proof.Proof.ITile

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

variable (d : Dev nD) (L : grid0.Coords)

abbrev csem (k : ℕ) (hk : k < 9 := by decide) : DmaSem sig := ⟨k, lt_of_lt_of_le hk (by decide)⟩
abbrev dcell (d : Dev nD) (c : Fin τ.nSC) (i : Fin τ.nSub) (k : Fin 9) : GSem nD τ sig := (V d c i, .dma (csem k.val k.isLt))
/-- The nine transfer cells the task names, at zero. -/
abbrev cells0 : sProp 𝕄 :=
  iprop(c0 d L cc0_scratch3.sem ∗ c0 d L cc0_scratch4.sem ∗ c0 d L cc0_scratch5.sem ∗ c0 d L cc0_scoped0.sem ∗ c0 d L cc0_scoped1.sem
    ∗ c0 d L (inC 0) ∗ c0 d L (inC 1) ∗ c0 d L (ouC 0) ∗ c0 d L (ouC 1))
theorem sem0_eq : cc0_scratch3.sem = csem 0 := rfl
theorem sem1_eq : cc0_scratch4.sem = csem 1 := rfl
theorem sem2_eq : cc0_scratch5.sem = csem 2 := rfl
theorem sem3_eq : cc0_scoped0.sem = csem 3 := rfl
theorem sem4_eq : cc0_scoped1.sem = csem 4 := rfl

theorem dcell_mem (c : Fin τ.nSC) (i : Fin τ.nSub) (k : Fin 9) : dcell d c i k ∈ ownCells (V d c i) :=
  mem_ownCells.mpr ⟨rfl, (show ∀ s : DmaSem sig, (SemLoc.dma s : SemLoc sig).isScoped .scVector = true by decide) _⟩

/-- The subcore's own cells at zero: the nine the task names and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  unfold cells0
  rw [sem0_eq, sem1_eq, sem2_eq, sem3_eq, sem4_eq]
  rfl

abbrev vref (r : Ref sig .scVector) : DevRef τ sig := (Proc.scVector (cV L) (jV L)).devRef r
/-- The subcore's own buffers but the five the task names. -/
abbrev restRefs : Finset (DevRef τ sig) :=
  (((((ownRefs (τ := τ) (.scVector (cV L) (jV L))).erase (vref L cc0_scratch0)).erase (vref L cc0_scratch1)).erase (vref L cc0_scratch2)).erase
    (vref L cc0_scoped2)).erase (vref L cc0_scoped4)

theorem vref_ne {r r' : Ref sig .scVector} (h : r ≠ r') : vref L r ≠ vref L r' := fun e => h (Proc.devRef_injective _ e)

/-- The five scratch buffers are among the subcore's own: they are them, at some contents, and the rest. -/
theorem ownBufs_V :
    (ownBufs (VT d L) : sProp 𝕄)
      = iprop((∃ f, l8Loc d L ↦{fullShare} f) ∗ (∃ f, l9Loc d L ↦{fullShare} f) ∗ (∃ f, l10Loc d L ↦{fullShare} f)
          ∗ (∃ f, biLoc d L ↦{fullShare} f) ∗ (∃ f, bvLoc d L ↦{fullShare} f)
          ∗ bigSep (restRefs L) fun b => iprop(∃ f, ((d, b) : Loc nD τ sig) ↦{fullShare} f)) := by
  have hm : ∀ r : Ref sig .scVector, (vref L r).owner = .proc (Proc.scVector (cV L) (jV L)) → vref L r ∈ ownRefs (τ := τ) (.scVector (cV L) (jV L)) :=
    fun r h => SparseCore.Cfg.mem_ownRefs_of_owner h
  unfold SparseCore.Cfg.ownBufs
  refine (SparseCore.bigSep_erase' (hm cc0_scratch0 rfl)).trans ?_
  rw [SparseCore.bigSep_erase' (Finset.mem_erase.mpr ⟨vref_ne L (show (cc0_scratch1 : Ref sig .scVector) ≠ cc0_scratch0 by decide), hm cc0_scratch1 rfl⟩),
    SparseCore.bigSep_erase' (Finset.mem_erase.mpr ⟨vref_ne L (show (cc0_scratch2 : Ref sig .scVector) ≠ cc0_scratch1 by decide),
      Finset.mem_erase.mpr ⟨vref_ne L (show (cc0_scratch2 : Ref sig .scVector) ≠ cc0_scratch0 by decide), hm cc0_scratch2 rfl⟩⟩),
    SparseCore.bigSep_erase' (Finset.mem_erase.mpr ⟨vref_ne L (show (cc0_scoped2 : Ref sig .scVector) ≠ cc0_scratch2 by decide),
      Finset.mem_erase.mpr ⟨vref_ne L (show (cc0_scoped2 : Ref sig .scVector) ≠ cc0_scratch1 by decide),
      Finset.mem_erase.mpr ⟨vref_ne L (show (cc0_scoped2 : Ref sig .scVector) ≠ cc0_scratch0 by decide), hm cc0_scoped2 rfl⟩⟩⟩),
    SparseCore.bigSep_erase' (Finset.mem_erase.mpr ⟨vref_ne L (show (cc0_scoped4 : Ref sig .scVector) ≠ cc0_scoped2 by decide),
      Finset.mem_erase.mpr ⟨vref_ne L (show (cc0_scoped4 : Ref sig .scVector) ≠ cc0_scratch2 by decide),
      Finset.mem_erase.mpr ⟨vref_ne L (show (cc0_scoped4 : Ref sig .scVector) ≠ cc0_scratch1 by decide),
      Finset.mem_erase.mpr ⟨vref_ne L (show (cc0_scoped4 : Ref sig .scVector) ≠ cc0_scratch0 by decide), hm cc0_scoped4 rfl⟩⟩⟩⟩)]

/-- A buffer in two halves, each whole of its part. -/
theorem halves {ℓ : Loc nD τ sig} (A B : Finset (Idx ℓ)) (hd : Disjoint A B) (hu : A ∪ B = Finset.univ) (f : Buf (Elt F) ℓ) :
    (ℓ ↦{fullShare} f : sProp 𝕄) ⊢ iprop((ℓ ↦[A]{fullShare} f) ∗ ℓ ↦[B]{fullShare} f) := by
  rw [← hu]
  exact (pointsTo_union hd).1
theorem halves_join {ℓ : Loc nD τ sig} (A B : Finset (Idx ℓ)) (hd : Disjoint A B) (hu : A ∪ B = Finset.univ) (f g : Buf (Elt F) ℓ) :
    iprop((ℓ ↦[A]{fullShare} f) ∗ ℓ ↦[B]{fullShare} g) ⊢ (iprop(∃ h, ℓ ↦{fullShare} h) : sProp 𝕄) := by
  classical
  iintro H
  ihave H := (pointsTo_join hd) $$ H
  rw [hu]
  iexists _
  iexact H

theorem gsl_disj : Disjoint (gsl 0) (gsl 1) := Finset.disjoint_left.mpr fun j h h' => by rw [mem_gsl] at h h'; omega
theorem gsl_univ : gsl 0 ∪ gsl 1 = Finset.univ := Finset.eq_univ_of_forall fun j => by
  have h : (j 0).val < 2 := (j 0).isLt
  rw [Finset.mem_union, mem_gsl, mem_gsl]; omega
theorem bsl_disj : Disjoint (bsl 0) (bsl 1) := Finset.disjoint_left.mpr fun j h h' => by rw [mem_bsl] at h h'; omega
theorem bsl_univ : bsl 0 ∪ bsl 1 = Finset.univ := Finset.eq_univ_of_forall fun j => by
  have h : (j 0).val < 2 := (j 0).isLt
  rw [Finset.mem_union, mem_bsl, mem_bsl]; omega

/-- Two read tokens of a share, and what stays. -/
theorem toks2 {ℓ : Loc nD τ sig} (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

variable (tb : S65536x128.Idx → Elt F .f32) (ix : S1x32768.Idx → BitVec 32) (rp : S4096x1024.Idx → BitVec 32) (pt : S64.Idx → Elt F .f32)

/-- Task `w`'s share of a buffer read by every task. -/
abbrev tq (w : ℕ) : PosShare TreeShare := Transfers.shareTokN fullShare w

/-- The operands task `L` reads, at its shares. -/
abbrev Ins : sProp 𝕄 :=
  iprop((rpLoc d ↦{tq (wg L)} (rp : Buf (Elt F) (rpLoc d))) ∗ (ixLoc d ↦{tq (wg L)} (ix : Buf (Elt F) (ixLoc d)))
    ∗ (tbLoc d ↦{tq (wg L)} (tb : Buf (Elt F) (tbLoc d))) ∗ (ptLoc d ↦{tq (wg L)} (pt : Buf (Elt F) (ptLoc d))))
/-- The task's parts of the two results before and after. -/
abbrev OutF (fo : Buf (Elt F) (goLoc d)) (fb : Buf (Elt F) (boLoc d)) : sProp 𝕄 :=
  iprop((bigSep (Finset.range 8) fun k => goLoc d ↦[gset (8 * wg L + k)]{fullShare} fo) ∗ bigSep (Finset.range 8) fun k => boLoc d ↦[bset (8 * wb L + k)]{fullShare} fb)

theorem tile_body (hF : (K (F := F)).Facts) (hix : ∀ j, (ix j).toNat < 65536) (hrp : ∀ j, (rp j).toNat < 64)
    (fo : Buf (Elt F) (goLoc d)) (fb : Buf (Elt F) (boLoc d)) (O : CellTallies nD τ sig (HIx 1)) (W : Waits sig (HIx 1)) (hO : ∀ g, O g none = 0) :
    iprop(levAts (K (F := F)).L (K (F := F)).lev ∗ emp ∗ (Ins d L tb ix rp pt ∗ OutF d L fo fb)
        ∗ scopedBufs (VT d L) ∗ scopedSems0 (VT d L) ∗ owes (VT d L) O W)
      ⊢ wp frame (wpE (defs₀ (F := F)) 𝒱₀ (VT d L) none) Set.univ (cc0_sc_kernel (F := F) L (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5)
          fun _ => iprop((Ins d L tb ix rp pt ∗ OutF d L (gath tb ix : Buf (Elt F) (goLoc d)) (bias pt rp : Buf (Elt F) (boLoc d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨⟨Hrp, Hix, Htb, Hpt⟩, Hgo, Hbo⟩, ⟨⟨%f8, H8⟩, ⟨%f9, H9⟩, ⟨%f10, H10⟩, ⟨%fi, Hbi⟩, ⟨%fv, Hbv⟩, Hbufs⟩, ⟨⟨Hc0, Hc1, Hc2, Hc3, Hc4, Hc5, Hc6, Hc7, Hc8⟩, Hsems⟩, HO⟩
  ihave Hmw := (show levAts (K (F := F)).L (K (F := F)).lev ⊢ Transfers.MayWaits (VT d L) (default : HIx 1) O from
    (K (F := F)).mayWaits_none (thr := VT d L) hO) $$ Hlv
  ihave H10 := (halves (ℓ := l10Loc d L) (gsl 0) (gsl 1) gsl_disj gsl_univ _) $$ H10
  icases H10 with ⟨Hs0, Hs1⟩
  ihave Hbi := (halves (ℓ := biLoc d L) (bsl 0) (bsl 1) bsl_disj bsl_univ _) $$ Hbi
  icases Hbi with ⟨Hi0, Hi1⟩
  ihave Hbv := (halves (ℓ := bvLoc d L) (bsl 0) (bsl 1) bsl_disj bsl_univ _) $$ Hbv
  icases Hbv with ⟨Hv0, Hv1⟩
  ihave Htb := (toks2 (tq (wg L)) _).1 $$ Htb
  icases Htb with ⟨Htr, Ht0, Ht1⟩
  ihave Hrp := (toks2 (tq (wg L)) _).1 $$ Hrp
  icases Hrp with ⟨Hrr, Hr0, Hr1⟩
  iapply (wp_wand_r Idealize.ShloMosaic.frame (wpE (defs₀ (F := F)) 𝒱₀ (VT d L) none) Set.univ)
  isplitl [Hpt Hix H8 H9 Hc0 Hc1 Hc2 Hc3 Hc4 Hc5 Hc6 Hc7 Hc8 Hs0 Hs1 Ht0 Ht1 Hgo Hbo Hi0 Hi1 Hv0 Hv1 Hr0 Hr1 HO]
  · iapply (kernel_run (d := d) (L := L) (tb := tb) (ix := ix) (rp := rp) (pt := pt) hix hrp (tq (wg L)) (tq (wg L)) (tq (wg L)) (tq (wg L)) O f10 f10 f8 f9 fo)
    isplitr; · iexact Hmw
    isplitl [Hpt]; · iexact Hpt
    isplitl [Hix]; · iexact Hix
    isplitl [H8]; · iexact H8
    isplitl [H9]; · iexact H9
    isplitl [Hc3]; · iexact Hc3
    isplitl [Hc4]; · iexact Hc4
    isplitl [Hs0]; · iexact Hs0
    isplitl [Hs1]; · iexact Hs1
    isplitl [Ht0]; · iexact Ht0
    isplitl [Hc0]; · iexact Hc0
    isplitl [Ht1]; · iexact Ht1
    isplitl [Hc1]; · iexact Hc1
    isplitl [Hc2]; · iexact Hc2
    isplitl [Hgo]; · iexact Hgo
    isplitl [Hi0 Hr0 Hc5]
    · unfold Fr ISf
      isplitl [Hi0]; · iexists _; iexact Hi0
      isplitl [Hr0]; · iexact Hr0
      iexact Hc5
    isplitl [Hi1 Hr1 Hc6]
    · unfold Fr ISf
      isplitl [Hi1]; · iexists _; iexact Hi1
      isplitl [Hr1]; · iexact Hr1
      iexact Hc6
    isplitl [Hv0]; · unfold OSf; iexists _; iexact Hv0
    isplitl [Hc7]; · iexact Hc7
    isplitl [Hv1]; · unfold OSf; iexists _; iexact Hv1
    isplitl [Hc8]; · iexact Hc8
    isplitl [Hbo]
    · iapply (show (bigSep (Finset.range 8) fun k => boLoc d ↦[bset (8 * wb L + k)]{fullShare} fb) ⊢ Todo (F := F) d L 0 by
        unfold Todo BOf
        rw [show Finset.Ico 0 8 = Finset.range 8 by decide]
        refine bigSep_mono fun k _ => ?_
        show (boLoc d ↦[bset (8 * wb L + k)]{fullShare} fb : sProp 𝕄) ⊢ iprop(∃ f, boLoc d ↦[bset (8 * wb L + k)]{fullShare} f)
        iintro H; iexists _; iexact H)
      iexact Hbo
    unfold OW
    iexists _; iexact HO
  iintro %_ ⟨Hpt, Hix, H8, H9, Hc3, Hc4, Hs0, Hs1, Ht0, Hc0, Ht1, Hc1, Hc2, Hgo, Hf0, Hf1, Hv0, Hc7, Hv1, Hc8, Hbo, HO⟩
  unfold Fr ISf OSf OW
  icases Hf0 with ⟨⟨%_, Hi0⟩, Hr0, Hc5⟩
  icases Hf1 with ⟨⟨%_, Hi1⟩, Hr1, Hc6⟩
  icases Hv0 with ⟨%_, Hv0⟩
  icases Hv1 with ⟨%_, Hv1⟩
  icases HO with ⟨%W', HO⟩
  ihave Htb := (toks2 (tq (wg L)) _).2 $$ [Htr Ht0 Ht1]
  · isplitl [Htr]; · iexact Htr
    isplitl [Ht0]; · iexact Ht0
    iexact Ht1
  ihave Hrp := (toks2 (tq (wg L)) _).2 $$ [Hrr Hr0 Hr1]
  · isplitl [Hrr]; · iexact Hrr
    isplitl [Hr0]; · iexact Hr0
    iexact Hr1
  ihave H10 := (halves_join (ℓ := l10Loc d L) (gsl 0) (gsl 1) gsl_disj gsl_univ _ _) $$ [Hs0 Hs1]
  · isplitl [Hs0]; · iexact Hs0
    iexact Hs1
  ihave Hbi := (halves_join (ℓ := biLoc d L) (bsl 0) (bsl 1) bsl_disj bsl_univ _ _) $$ [Hi0 Hi1]
  · isplitl [Hi0]; · iexact Hi0
    iexact Hi1
  ihave Hbv := (halves_join (ℓ := bvLoc d L) (bsl 0) (bsl 1) bsl_disj bsl_univ _ _) $$ [Hv0 Hv1]
  · isplitl [Hv0]; · iexact Hv0
    iexact Hv1
  isplitl [Hrp Hix Htb Hpt Hgo Hbo]
  · isplitl [Hrp Hix Htb Hpt]
    · isplitl [Hrp]; · iexact Hrp
      isplitl [Hix]; · iexact Hix
      isplitl [Htb]; · iexact Htb
      iexact Hpt
    isplitl [Hgo]; · iexact Hgo
    iexact Hbo
  isplitl [H8 H9 H10 Hbi Hbv Hbufs]
  · isplitl [H8]; · iexists _; iexact H8
    isplitl [H9]; · iexists _; iexact H9
    isplitl [H10]; · iexact H10
    isplitl [Hbi]; · iexact Hbi
    isplitl [Hbv]; · iexact Hbv
    iexact Hbufs
  isplitl [Hc0 Hc1 Hc2 Hc3 Hc4 Hc5 Hc6 Hc7 Hc8 Hsems]
  · isplitr [Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      iexact Hc8
    iexact Hsems
  iexists W'
  isplitr
  · ipureintro; intro p _
    rcases p.2 with _ | q
    · exact .inr (.inl rfl)
    · exact .inr (.inr (congrArg some (Subsingleton.elim q 0)))
  iexact HO

end Cert.Proof.IT
end
-- ==== Proof.ISplit.lean ====
/-
How the operands and the results of the SparseCore call divide among its 32 tasks.
-/
module

public import proofs.«01_k».proof.Proof.ITask

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Cert.Proof.Steps

variable {F : FTy → Type} [FloatOps F]

local notation "𝕄" => MT nD τ sig (HIx 1) (Elt F) ℕ UU ℕ

/-- The grid coordinates of the task on subcore `s` of SparseCore `c`. -/
def coordsV (c : Fin 2) (s : Fin 16) : grid0.Coords :=
  fun | 0 => c | 1 => s | ⟨_ + 2, h⟩ => absurd h (Nat.not_lt.2 (Nat.le_add_left _ _))

theorem wg_coords (c : Fin 2) (s : Fin 16) : wg (coordsV c s) = 2 * s.val + c.val := rfl
theorem wb_coords (c : Fin 2) (s : Fin 16) : wb (coordsV c s) = s.val + 16 * c.val := rfl

/-- Something of each of 32 numbers, by core and subcore: the numbering of the gathered rows' parts, -/
theorem by_wg (Φ : ℕ → sProp 𝕄) : bigSep (Finset.range 32) Φ
    = bigSep Finset.univ fun c : Fin 2 => bigSep Finset.univ fun s : Fin 16 => Φ (2 * s.val + c.val) := by
  rw [← bigSep_univ_prod (fun p : Fin 2 × Fin 16 => Φ (2 * p.2.val + p.1.val)),
    ← BI.bigSep_image_of_injOn (f := fun p : Fin 2 × Fin 16 => 2 * p.2.val + p.1.val) (s := Finset.univ) ?_ Φ]
  · exact congrArg (fun s => bigSep s Φ) (by decide)
  · rintro ⟨a, b⟩ - ⟨a', b'⟩ - h
    have h : 2 * b.val + a.val = 2 * b'.val + a'.val := h
    have := a.isLt; have := a'.isLt
    exact Prod.ext (Fin.ext (by show a.val = a'.val; omega)) (Fin.ext (by show b.val = b'.val; omega))

/-- and that of the bias blocks' parts. -/
theorem by_wb (Φ : ℕ → sProp 𝕄) : bigSep (Finset.range 32) Φ
    = bigSep Finset.univ fun c : Fin 2 => bigSep Finset.univ fun s : Fin 16 => Φ (s.val + 16 * c.val) := by
  rw [← bigSep_univ_prod (fun p : Fin 2 × Fin 16 => Φ (p.2.val + 16 * p.1.val)),
    ← BI.bigSep_image_of_injOn (f := fun p : Fin 2 × Fin 16 => p.2.val + 16 * p.1.val) (s := Finset.univ) ?_ Φ]
  · exact congrArg (fun s => bigSep s Φ) (by decide)
  · rintro ⟨a, b⟩ - ⟨a', b'⟩ - h
    have h : b.val + 16 * a.val = b'.val + 16 * a'.val := h
    have := b.isLt; have := b'.isLt
    exact Prod.ext (Fin.ext (by show a.val = a'.val; omega)) (Fin.ext (by show b.val = b'.val; omega))

/-- 256 parts are 32 runs of eight. -/
theorem by_eight (Φ : ℕ → sProp 𝕄) : bigSep (Finset.range 256) Φ
    = bigSep (Finset.range 32) fun w => bigSep (Finset.range 8) fun k => Φ (8 * w + k) := by
  rw [← SparseCore.bigSep_product (Finset.range 32) (Finset.range 8) (fun p => Φ (8 * p.1 + p.2)),
    ← BI.bigSep_image_of_injOn (f := fun p : ℕ × ℕ => 8 * p.1 + p.2) (s := Finset.range 32 ×ˢ Finset.range 8) ?_ Φ]
  · refine congrArg (fun s => bigSep s Φ) ?_
    ext n
    simp only [Finset.mem_image, Finset.mem_product, Finset.mem_range, Prod.exists]
    constructor
    · intro h; exact ⟨n / 8, n % 8, ⟨by omega, by omega⟩, by omega⟩
    · rintro ⟨a, b, ⟨h1, h2⟩, rfl⟩; omega
  · rintro ⟨a, b⟩ hp ⟨a', b'⟩ hp' h
    have h : 8 * a + b = 8 * a' + b' := h
    simp only [Finset.coe_product, Set.mem_prod, Finset.mem_coe, Finset.mem_range] at hp hp'
    exact Prod.ext (by show a = a'; omega) (by show b = b'; omega)

/-- The gathered array in its 256 parts. -/
theorem go_parts (d : Dev nD) (f : Buf (Elt F) (goLoc d)) : (goLoc d ↦{fullShare} f : sProp 𝕄)
    = bigSep (Finset.range 32) fun w => bigSep (Finset.range 8) fun k => goLoc d ↦[gset (8 * w + k)]{fullShare} f := by
  rw [← by_eight (fun n => goLoc d ↦[gset n]{fullShare} f), ← pointsTo_biUnion (ℓ := goLoc d) (Finset.range 256) gset ?_]
  · refine (congrArg (fun s => (goLoc d ↦[s]{fullShare} f : sProp 𝕄)) (Finset.eq_univ_of_forall fun j => ?_)).symm
    have h : (j 0).val < 32768 := (j 0).isLt
    exact Finset.mem_biUnion.mpr ⟨(j 0).val / 128, Finset.mem_range.mpr (by omega), mem_gset.mpr rfl⟩
  · intro a _ b _ hab
    exact Finset.disjoint_left.mpr fun j h h' => hab ((mem_gset.mp h).symm.trans (mem_gset.mp h'))

/-- The bias array in its 256 parts. -/
theorem bo_parts (d : Dev nD) (f : Buf (Elt F) (boLoc d)) : (boLoc d ↦{fullShare} f : sProp 𝕄)
    = bigSep (Finset.range 32) fun w => bigSep (Finset.range 8) fun k => boLoc d ↦[bset (8 * w + k)]{fullShare} f := by
  rw [← by_eight (fun n => boLoc d ↦[bset n]{fullShare} f), ← pointsTo_biUnion (ℓ := boLoc d) (Finset.range 256) bset ?_]
  · refine (congrArg (fun s => (boLoc d ↦[s]{fullShare} f : sProp 𝕄)) (Finset.eq_univ_of_forall fun j => ?_)).symm
    have h : (j 0).val < 4096 := (j 0).isLt
    exact Finset.mem_biUnion.mpr ⟨(j 0).val / 16, Finset.mem_range.mpr (by omega), mem_bset.mpr rfl⟩
  · intro a _ b _ hab
    exact Finset.disjoint_left.mpr fun j h h' => hab ((mem_bset.mp h).symm.trans (mem_bset.mp h'))

/-- An operand read by all tasks: 32 read tokens of it, and what stays. -/
theorem toks32 {ℓ : Loc nD τ sig} (f : Buf (Elt F) ℓ) :
    (ℓ ↦{fullShare} f : sProp 𝕄) = iprop((ℓ ↦{Transfers.shareDrop fullShare 32} f) ∗ bigSep (Finset.range 32) fun w => ℓ ↦{tq w} f) :=
  have h : (ℓ ↦{fullShare} f : sProp 𝕄) ⊣⊢ iprop((ℓ ↦{Transfers.shareDrop fullShare 32} f) ∗ bigSep (Finset.range 32) fun w => ℓ ↦{tq w} f) :=
    Transfers.pointsTo_toks_range (ℓ := ℓ) (S := Finset.univ) (f := f) fullShare 32
  BI.Entails.antisymm h.1 h.2

variable (d : Dev nD) (tb : S65536x128.Idx → Elt F .f32) (ix : S1x32768.Idx → BitVec 32) (rp : S4096x1024.Idx → BitVec 32) (pt : S64.Idx → Elt F .f32)

/-- What stays of the four operands while the tasks read them. -/
def Rem : sProp 𝕄 :=
  iprop((rpLoc d ↦{Transfers.shareDrop fullShare 32} (rp : Buf (Elt F) (rpLoc d))) ∗ (ixLoc d ↦{Transfers.shareDrop fullShare 32} (ix : Buf (Elt F) (ixLoc d)))
    ∗ (tbLoc d ↦{Transfers.shareDrop fullShare 32} (tb : Buf (Elt F) (tbLoc d))) ∗ (ptLoc d ↦{Transfers.shareDrop fullShare 32} (pt : Buf (Elt F) (ptLoc d))))

/-- The six buffers of the call, whole. -/
def Six (fo : Buf (Elt F) (goLoc d)) (fb : Buf (Elt F) (boLoc d)) : sProp 𝕄 :=
  iprop(((rpLoc d ↦{fullShare} (rp : Buf (Elt F) (rpLoc d))) ∗ (ixLoc d ↦{fullShare} (ix : Buf (Elt F) (ixLoc d)))
    ∗ (tbLoc d ↦{fullShare} (tb : Buf (Elt F) (tbLoc d))) ∗ (ptLoc d ↦{fullShare} (pt : Buf (Elt F) (ptLoc d))))
    ∗ (goLoc d ↦{fullShare} fo) ∗ (boLoc d ↦{fullShare} fb))

/-- All the tasks' parts. -/
def All (fo : Buf (Elt F) (goLoc d)) (fb : Buf (Elt F) (boLoc d)) : sProp 𝕄 :=
  bigSep Finset.univ fun c : Fin 2 => bigSep Finset.univ fun s : Fin 16 => iprop(Ins d (coordsV c s) tb ix rp pt ∗ OutF d (coordsV c s) fo fb)

/-- Four pairs and two more, the pairs' parts grouped. -/
theorem shuffle (a a' b b' c c' e e' g h : sProp 𝕄) :
    iprop(((a ∗ a') ∗ (b ∗ b') ∗ (c ∗ c') ∗ (e ∗ e')) ∗ g ∗ h) = iprop((a ∗ b ∗ c ∗ e) ∗ (a' ∗ b' ∗ c' ∗ e') ∗ g ∗ h) := by
  refine BI.Entails.antisymm (show iprop(((a ∗ a') ∗ (b ∗ b') ∗ (c ∗ c') ∗ (e ∗ e')) ∗ g ∗ h) ⊢ iprop((a ∗ b ∗ c ∗ e) ∗ (a' ∗ b' ∗ c' ∗ e') ∗ g ∗ h) from ?_) (show iprop((a ∗ b ∗ c ∗ e) ∗ (a' ∗ b' ∗ c' ∗ e') ∗ g ∗ h) ⊢ iprop(((a ∗ a') ∗ (b ∗ b') ∗ (c ∗ c') ∗ (e ∗ e')) ∗ g ∗ h) from ?_)
  · iintro ⟨⟨⟨A, A'⟩, ⟨B, B'⟩, ⟨C, C'⟩, ⟨E, E'⟩⟩, G, H⟩
    isplitl [A B C E]
    · isplitl [A]; · iexact A
      isplitl [B]; · iexact B
      isplitl [C]; · iexact C
      iexact E
    isplitl [A' B' C' E']
    · isplitl [A']; · iexact A'
      isplitl [B']; · iexact B'
      isplitl [C']; · iexact C'
      iexact E'
    isplitl [G]; · iexact G
    iexact H
  · iintro ⟨⟨A, B, C, E⟩, ⟨A', B', C', E'⟩, G, H⟩
    isplitl [A B C E A' B' C' E']
    · isplitl [A A']
      · isplitl [A]; · iexact A
        iexact A'
      isplitl [B B']
      · isplitl [B]; · iexact B
        iexact B'
      isplitl [C C']
      · isplitl [C]; · iexact C
        iexact C'
      isplitl [E]; · iexact E
      iexact E'
    isplitl [G]; · iexact G
    iexact H

/-- The six buffers whole are all the tasks' parts and what stays. -/
theorem six_eq (fo : Buf (Elt F) (goLoc d)) (fb : Buf (Elt F) (boLoc d)) :
    Six d tb ix rp pt fo fb = iprop(Rem d tb ix rp pt ∗ All d tb ix rp pt fo fb) := by
  unfold Six Rem All
  simp only [Ins, OutF, wg_coords, wb_coords]
  simp only [bigSep_sep']
  rw [← by_wg (fun w => (rpLoc d ↦{tq w} (rp : Buf (Elt F) (rpLoc d)) : sProp 𝕄)), ← by_wg (fun w => (ixLoc d ↦{tq w} (ix : Buf (Elt F) (ixLoc d)) : sProp 𝕄)),
    ← by_wg (fun w => (tbLoc d ↦{tq w} (tb : Buf (Elt F) (tbLoc d)) : sProp 𝕄)), ← by_wg (fun w => (ptLoc d ↦{tq w} (pt : Buf (Elt F) (ptLoc d)) : sProp 𝕄)),
    ← by_wg (fun w => (bigSep (Finset.range 8) fun k => goLoc d ↦[gset (8 * w + k)]{fullShare} fo : sProp 𝕄)),
    ← by_wb (fun w => (bigSep (Finset.range 8) fun k => boLoc d ↦[bset (8 * w + k)]{fullShare} fb : sProp 𝕄)),
    ← go_parts, ← bo_parts, toks32 (ℓ := rpLoc d), toks32 (ℓ := ixLoc d), toks32 (ℓ := tbLoc d), toks32 (ℓ := ptLoc d)]
  exact shuffle _ _ _ _ _ _ _ _ _ _

end Cert.Proof.IT

end
-- ==== Proof.IRegion.lean ====
/-
The TensorCore call at one grid point: what its body leaves in the output window, and the pipeline's proof data.
-/
module

public import proofs.«01_k».proof.Proof.IBase
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Pipeline.ValueKit

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (Dat Cfg Window BodyObligation cellOf arrRef)

variable {F : FTy → Type} [FloatOps F]

local notation "𝕄" => MT nD τ sig (HIx 1) (Elt F) ℕ UU ℕ

/-- What the body stores in the output window, of the seven input blocks. -/
def outV (x0 : Vec F S1x512x1024 .f32) (x1 : Vec F S1x512x1024 .f32) (x2 : Vec F S1x1024x1024 .f32) (x3 : Vec F S1x512x1024 .f32) (x4 : Vec F S1024x1024 .f32) (x5 : Vec F S1024x1024 .f32) (x6 : Vec F S1x1024 .f32) : Vec F S1x512x1024 .f32 :=
  k1_pay1 (k1_pay2 x0 x1 x2 x4 x3 x5 x6)

set_option maxHeartbeats 4000000 in
/-- The body runs over whole memrefs: the inputs stay, the output window ends at `outV` of them. -/
theorem body_run (d : Dev nD) (i : grid1.Coords) (a0 : Memref sig .tc .vmem S1x512x1024 .f32) (ha0 : a0.IsWhole) (a1 : Memref sig .tc .vmem S1x512x1024 .f32) (ha1 : a1.IsWhole) (a2 : Memref sig .tc .vmem S1x1024x1024 .f32) (ha2 : a2.IsWhole) (a3 : Memref sig .tc .vmem S1x512x1024 .f32) (ha3 : a3.IsWhole) (a4 : Memref sig .tc .vmem S1024x1024 .f32) (ha4 : a4.IsWhole) (a5 : Memref sig .tc .vmem S1024x1024 .f32) (ha5 : a5.IsWhole) (a6 : Memref sig .tc .vmem S1x1024 .f32) (ha6 : a6.IsWhole) (a7 : Memref sig .tc .vmem S1x512x1024 .f32) (ha7 : a7.IsWhole) (x0 : Vec F S1x512x1024 .f32) (x1 : Vec F S1x512x1024 .f32) (x2 : Vec F S1x1024x1024 .f32) (x3 : Vec F S1x512x1024 .f32) (x4 : Vec F S1024x1024 .f32) (x5 : Vec F S1024x1024 .f32) (x6 : Vec F S1x1024 .f32) (Φ : PUnit → sProp 𝕄) :
    iprop(owns (T d) a0 fullShare x0 ∗ owns (T d) a1 fullShare x1 ∗ owns (T d) a2 fullShare x2 ∗ owns (T d) a3 fullShare x3 ∗ owns (T d) a4 fullShare x4 ∗ owns (T d) a5 fullShare x5 ∗ owns (T d) a6 fullShare x6 ∗ (∃ x, owns (T d) a7 fullShare x)
        ∗ (iprop(owns (T d) a0 fullShare x0 ∗ owns (T d) a1 fullShare x1 ∗ owns (T d) a2 fullShare x2 ∗ owns (T d) a3 fullShare x3 ∗ owns (T d) a4 fullShare x4 ∗ owns (T d) a5 fullShare x5 ∗ owns (T d) a6 fullShare x6 ∗ owns (T d) a7 fullShare (outV x0 x1 x2 x3 x4 x5 x6)) -∗ Φ ⟨⟩))
      ⊢ wp frame (wpE (defs₀ (F := F)) 𝒱₀ (T d) none) Set.univ
          (cc1_body (F := F) i a0 ha0 a1 ha1 a2 ha2 a3 ha3 a4 ha4 a5 ha5 a6 ha6 a7 ha7) Φ := by
  rw [cc1_body_eq_skeleton]; unfold cc1_body_skel; rw [k1_part1_eq_skeleton]; unfold k1_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%x7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (View.cover_of_tiled _ S1x512x1024.size (by rfl))).trans ?_
  rw [View.canon_cons_unit_lit _ _ _ (by decide)]
  simp only [View.readAt_eq_ld]
  unfold outV
  simp (disch := decide) only [View.ld_unit_lit]

/-- Window `w`'s block at point `t` of an assignment of contents to the arrays. -/
def iblk (V : Valuation τ sig (Elt F)) (w : Fin cfg1.W) (t : Fin cfg1.N) :
    ((cfg1.win w).xblock (cfg1.grid.coords t)).Idx → Elt F (cfg1.win w).elt :=
  ((cfg1.win w).blk t).view.read (Elt F) (V (Proc.devRef .tc (arrRef spec1 w)))

/-- The proof data of the pipeline: it finds the arrays at `V`, leaves its inputs and stores `outV` of their blocks. -/
def dat (V : Valuation τ sig (Elt F)) (c : Dev nD) : Dat τ (Elt F) (HIx 1) ℕ UU ℕ cfg1 c where
  A w := V (Proc.devRef .tc (arrRef spec1 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => outV (iblk V 0 t) (iblk V 1 t) (iblk V 2 t) (iblk V 3 t) (iblk V 4 t) (iblk V 5 t) (iblk V 6 t)
  Φ _ := Pipeline.scopedRest spec1 c
  q _ := fullShare
  owed _ := 0

theorem dat_A (V : Valuation τ sig (Elt F)) (c : Dev nD) (w : Fin cfg1.W) : (dat V c).A w = V (Proc.devRef .tc (arrRef spec1 w)) := by
  dsimp only [dat]
theorem dat_after0 (V : Valuation τ sig (Elt F)) (c : Dev nD) (t : Fin cfg1.N) : (dat V c).after 0 t = iblk V 0 t := by dsimp only [dat]
theorem dat_after1 (V : Valuation τ sig (Elt F)) (c : Dev nD) (t : Fin cfg1.N) : (dat V c).after 1 t = iblk V 1 t := by dsimp only [dat]
theorem dat_after2 (V : Valuation τ sig (Elt F)) (c : Dev nD) (t : Fin cfg1.N) : (dat V c).after 2 t = iblk V 2 t := by dsimp only [dat]
theorem dat_after3 (V : Valuation τ sig (Elt F)) (c : Dev nD) (t : Fin cfg1.N) : (dat V c).after 3 t = iblk V 3 t := by dsimp only [dat]
theorem dat_after4 (V : Valuation τ sig (Elt F)) (c : Dev nD) (t : Fin cfg1.N) : (dat V c).after 4 t = iblk V 4 t := by dsimp only [dat]
theorem dat_after5 (V : Valuation τ sig (Elt F)) (c : Dev nD) (t : Fin cfg1.N) : (dat V c).after 5 t = iblk V 5 t := by dsimp only [dat]
theorem dat_after6 (V : Valuation τ sig (Elt F)) (c : Dev nD) (t : Fin cfg1.N) : (dat V c).after 6 t = iblk V 6 t := by dsimp only [dat]
theorem dat_after7 (V : Valuation τ sig (Elt F)) (c : Dev nD) (t : Fin cfg1.N) :
    (dat V c).after 7 t = outV (iblk V 0 t) (iblk V 1 t) (iblk V 2 t) (iblk V 3 t) (iblk V 4 t) (iblk V 5 t) (iblk V 6 t) := by dsimp only [dat]
theorem dat_before0 (V : Valuation τ sig (Elt F)) (c : Dev nD) (t : Fin cfg1.N) (x) : (dat V c).before 0 t x = iblk V 0 t :=
  ((dat V c).before_in_eq_fetched 0 rfl (fun _ => rfl) (fun _ _ _ => rfl) (fun t => by rw [dat_after0]; unfold Dat.blockOf iblk; rw [dat_A]; try rfl) t x).trans
    (by unfold Dat.fetched Dat.blockOf iblk; rw [dat_A]; try rfl)
theorem dat_before1 (V : Valuation τ sig (Elt F)) (c : Dev nD) (t : Fin cfg1.N) (x) : (dat V c).before 1 t x = iblk V 1 t :=
  ((dat V c).before_in_eq_fetched 1 rfl (fun _ => rfl) (fun _ _ _ => rfl) (fun t => by rw [dat_after1]; unfold Dat.blockOf iblk; rw [dat_A]; try rfl) t x).trans
    (by unfold Dat.fetched Dat.blockOf iblk; rw [dat_A]; try rfl)
theorem dat_before2 (V : Valuation τ sig (Elt F)) (c : Dev nD) (t : Fin cfg1.N) (x) : (dat V c).before 2 t x = iblk V 2 t :=
  ((dat V c).before_in_eq_fetched 2 rfl (fun _ => rfl) (fun _ _ _ => rfl) (fun t => by rw [dat_after2]; unfold Dat.blockOf iblk; rw [dat_A]; try rfl) t x).trans
    (by unfold Dat.fetched Dat.blockOf iblk; rw [dat_A]; try rfl)
theorem dat_before3 (V : Valuation τ sig (Elt F)) (c : Dev nD) (t : Fin cfg1.N) (x) : (dat V c).before 3 t x = iblk V 3 t :=
  ((dat V c).before_in_eq_fetched 3 rfl (fun _ => rfl) (fun _ _ _ => rfl) (fun t => by rw [dat_after3]; unfold Dat.blockOf iblk; rw [dat_A]; try rfl) t x).trans
    (by unfold Dat.fetched Dat.blockOf iblk; rw [dat_A]; try rfl)
theorem dat_before4 (V : Valuation τ sig (Elt F)) (c : Dev nD) (t : Fin cfg1.N) (x) : (dat V c).before 4 t x = iblk V 4 t :=
  ((dat V c).before_in_eq_fetched 4 rfl (fun _ => rfl) (fun _ _ _ => rfl) (fun t => by rw [dat_after4]; unfold Dat.blockOf iblk; rw [dat_A]; try rfl) t x).trans
    (by unfold Dat.fetched Dat.blockOf iblk; rw [dat_A]; try rfl)
theorem dat_before5 (V : Valuation τ sig (Elt F)) (c : Dev nD) (t : Fin cfg1.N) (x) : (dat V c).before 5 t x = iblk V 5 t :=
  ((dat V c).before_in_eq_fetched 5 rfl (fun _ => rfl) (fun _ _ _ => rfl) (fun t => by rw [dat_after5]; unfold Dat.blockOf iblk; rw [dat_A]; try rfl) t x).trans
    (by unfold Dat.fetched Dat.blockOf iblk; rw [dat_A]; try rfl)
theorem dat_before6 (V : Valuation τ sig (Elt F)) (c : Dev nD) (t : Fin cfg1.N) (x) : (dat V c).before 6 t x = iblk V 6 t :=
  ((dat V c).before_in_eq_fetched 6 rfl (fun _ => rfl) (fun _ _ _ => rfl) (fun t => by rw [dat_after6]; unfold Dat.blockOf iblk; rw [dat_A]; try rfl) t x).trans
    (by unfold Dat.fetched Dat.blockOf iblk; rw [dat_A]; try rfl)

/-- What the body is called with at a point. -/
def bodyPre (V : Valuation τ sig (Elt F)) (c : Dev nD) (ι : HIx 1) (t : Fin cfg1.N) : sProp 𝕄 :=
  iprop((dat V c).Φ t.castSucc ∗ (dat V c).owesAt ι t.castSucc
    ∗ (∃ x, owns (T c) (st1_0 t) fullShare ((dat V c).before 0 t x)) ∗ (∃ x, owns (T c) (st1_1 t) fullShare ((dat V c).before 1 t x)) ∗ (∃ x, owns (T c) (st1_2 t) fullShare ((dat V c).before 2 t x)) ∗ (∃ x, owns (T c) (st1_3 t) fullShare ((dat V c).before 3 t x)) ∗ (∃ x, owns (T c) (st1_4 t) fullShare ((dat V c).before 4 t x)) ∗ (∃ x, owns (T c) (st1_5 t) fullShare ((dat V c).before 5 t x)) ∗ (∃ x, owns (T c) (st1_6 t) fullShare ((dat V c).before 6 t x)) ∗ (∃ x, owns (T c) (st1_7 t) fullShare ((dat V c).before 7 t x)))

/-- What it returns. -/
def bodyPost (V : Valuation τ sig (Elt F)) (c : Dev nD) (ι : HIx 1) (t : Fin cfg1.N) : sProp 𝕄 :=
  iprop((dat V c).Φ t.succ ∗ (dat V c).owesAt ι t.succ
    ∗ owns (T c) (st1_0 t) fullShare ((dat V c).after 0 t) ∗ owns (T c) (st1_1 t) fullShare ((dat V c).after 1 t) ∗ owns (T c) (st1_2 t) fullShare ((dat V c).after 2 t) ∗ owns (T c) (st1_3 t) fullShare ((dat V c).after 3 t) ∗ owns (T c) (st1_4 t) fullShare ((dat V c).after 4 t) ∗ owns (T c) (st1_5 t) fullShare ((dat V c).after 5 t) ∗ owns (T c) (st1_6 t) fullShare ((dat V c).after 6 t) ∗ owns (T c) (st1_7 t) fullShare ((dat V c).after 7 t))

theorem body_at (V : Valuation τ sig (Elt F)) (c : Dev nD) (ι : HIx 1) (t : Fin cfg1.N) :
    bodyPre V c ι t ⊢ wp frame (wpE (defs₀ (F := F)) 𝒱₀ (T c) none) Set.univ (bodyAt1 t) (fun _ => bodyPost V c ι t) := by
  unfold bodyPre bodyPost bodyAt1
  simp only [dat_before0, dat_before1, dat_before2, dat_before3, dat_before4, dat_before5, dat_before6]
  rw [show (dat V c).Φ t.succ = (dat V c).Φ t.castSucc from rfl,
    show (dat V c).owesAt ι t.succ = (dat V c).owesAt ι t.castSucc from rfl,
    dat_after0, dat_after1, dat_after2, dat_after3, dat_after4, dat_after5, dat_after6, dat_after7]
  iintro ⟨HΦ, Ho, ⟨%x0, H0⟩, ⟨%x1, H1⟩, ⟨%x2, H2⟩, ⟨%x3, H3⟩, ⟨%x4, H4⟩, ⟨%x5, H5⟩, ⟨%x6, H6⟩, ⟨%x7, H7⟩⟩
  iapply (body_run c _ _ _ _ _ _ _ _ _ _ _ _ _ _ _ _ _ (iblk V 0 t) (iblk V 1 t) (iblk V 2 t) (iblk V 3 t) (iblk V 4 t) (iblk V 5 t) (iblk V 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg1.N) :
    defs₀ (F := F) .tc cfg1.body (cfg1.bodyArgs t (cfg1.slots t)) = bodyAt1 t := rfl

/-- The body obligation at every point. -/
theorem body_obligation (V : Valuation τ sig (Elt F)) (c : Dev nD) (ι : HIx 1) :
    BodyObligation (dat V c) (defs₀ (F := F)) 𝒱₀ ι Set.univ := fun t => by
  rw [bigSep_W1, bigSep_W1, defs₀_row]
  exact triple_restated (body_at V c ι t) rfl .rfl fun _ => .rfl

end Cert.Proof.IT

end
-- ==== Proof.IHost.lean ====
/-
The host operations around the two calls, and what they leave in the buffers.
-/
module

public import proofs.«01_k».proof.Proof.IBase
public import Idealize.ShloMosaic.Lib.StableHlo.Run

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)

variable {F : FTy → Type} [FloatOps F]

local notation "𝕄" => MT nD τ sig (HIx 1) (Elt F) ℕ UU ℕ

/-- The host operations before the SparseCore call. -/
abbrev ops0 : List (HloOp τ sig (Elt F)) :=
  [ StableHlo.reshape main_arg1 main_v0 (rfl : (.i32 : EltTy) = .i32) shapeCasts_S4x1024x1024_S4096x1024,
    StableHlo.nullary main_v1 (iotaInDim S4 32 0),
    StableHlo.nullary main_c (constantI S_ 32 2048#32),
    StableHlo.unary main_c main_v2 (broadcastInDim S4 ![] bcast_S_S4 : (⟨S_, .i32⟩ : BufTy).Contents (Elt F) → (⟨S4, .i32⟩ : BufTy).Contents (Elt F)),
    StableHlo.binary main_v1 main_v2 main_v3 (muli : (⟨S4, .i32⟩ : BufTy).Contents (Elt F) → (⟨S4, .i32⟩ : BufTy).Contents (Elt F) → (⟨S4, .i32⟩ : BufTy).Contents (Elt F)),
    StableHlo.unary main_v3 main_v4 (broadcastInDim S4x1 ![0] bcast_S4_S4x1_0 : (⟨S4, .i32⟩ : BufTy).Contents (Elt F) → (⟨S4x1, .i32⟩ : BufTy).Contents (Elt F)),
    StableHlo.unary main_v4 main_v5 (broadcastInDim S4x1024 ![0, 1] bcast_S4x1_S4x1024_0_1 : (⟨S4x1, .i32⟩ : BufTy).Contents (Elt F) → (⟨S4x1024, .i32⟩ : BufTy).Contents (Elt F)),
    StableHlo.binary main_arg4 main_v5 main_v6 (addi : (⟨S4x1024, .i32⟩ : BufTy).Contents (Elt F) → (⟨S4x1024, .i32⟩ : BufTy).Contents (Elt F) → (⟨S4x1024, .i32⟩ : BufTy).Contents (Elt F)),
    StableHlo.reshape main_v6 main_v7 (rfl : (.i32 : EltTy) = .i32) shapeCasts_S4x1024_S1x4096,
    StableHlo.reshape main_v7 main_v8 (rfl : (.i32 : EltTy) = .i32) shapeCasts_S1x4096_S4096x1,
    StableHlo.nullary main_c_0 (constantI S_ 32 8#32),
    StableHlo.unary main_c_0 main_v9 (broadcastInDim S4096x1 ![] bcast_S_S4096x1 : (⟨S_, .i32⟩ : BufTy).Contents (Elt F) → (⟨S4096x1, .i32⟩ : BufTy).Contents (Elt F)),
    StableHlo.binary main_v8 main_v9 main_v10 (muli : (⟨S4096x1, .i32⟩ : BufTy).Contents (Elt F) → (⟨S4096x1, .i32⟩ : BufTy).Contents (Elt F) → (⟨S4096x1, .i32⟩ : BufTy).Contents (Elt F)),
    StableHlo.nullary main_v11 (iotaInDim S8 32 0),
    StableHlo.unary main_v11 main_v12 (broadcastInDim S1x8 ![1] bcast_S8_S1x8_1 : (⟨S8, .i32⟩ : BufTy).Contents (Elt F) → (⟨S1x8, .i32⟩ : BufTy).Contents (Elt F)),
    StableHlo.unary main_v10 main_v13 (broadcastInDim S4096x8 ![0, 1] bcast_S4096x1_S4096x8_0_1 : (⟨S4096x1, .i32⟩ : BufTy).Contents (Elt F) → (⟨S4096x8, .i32⟩ : BufTy).Contents (Elt F)),
    StableHlo.unary main_v12 main_v14 (broadcastInDim S4096x8 ![0, 1] bcast_S1x8_S4096x8_0_1 : (⟨S1x8, .i32⟩ : BufTy).Contents (Elt F) → (⟨S4096x8, .i32⟩ : BufTy).Contents (Elt F)),
    StableHlo.binary main_v13 main_v14 main_v15 (addi : (⟨S4096x8, .i32⟩ : BufTy).Contents (Elt F) → (⟨S4096x8, .i32⟩ : BufTy).Contents (Elt F) → (⟨S4096x8, .i32⟩ : BufTy).Contents (Elt F)),
    StableHlo.reshape main_v15 main_v16 (rfl : (.i32 : EltTy) = .i32) shapeCasts_S4096x8_S1x32768,
    StableHlo.reshape main_arg3 main_v17 (rfl : (.f32 : EltTy) = .f32) shapeCasts_S4x2048x1024_S65536x128 ]

/-- The host operations between the two calls. -/
abbrev ops1 : List (HloOp τ sig (Elt F)) :=
  [ StableHlo.reshape main_v18_0 main_v19 (rfl : (.f32 : EltTy) = .f32) shapeCasts_S4096x1024_S4x1024x1024,
    StableHlo.reshape main_v18_1 main_v20 (rfl : (.f32 : EltTy) = .f32) shapeCasts_S32768x128_S4x1024x1024,
    StableHlo.reshape main_arg8 main_v21 (rfl : (.f32 : EltTy) = .f32) shapeCasts_S1024_S1x1024 ]

/-- The TensorCore call. -/
abbrev tcCall : Prog (TpuEff nD τ sig (Elt F) (SparseCore.Sig (ΛP (F := F)) 1) .tc) PUnit :=
  Prog.lift (.customCall (SparseCore.inner (Pipeline.entry 0)) ())

theorem main_eq (d : Dev nD) : main (F := F) d
    = StableHlo.seq ops0 >>= fun _ => (K (F := F)).run d 0 >>= fun _ => StableHlo.seq ops1 >>= fun _ => tcCall >>= fun _ => pure ⟨⟩ := by
  have e1 := StableHlo.seq_bind_seqK (ops1 (F := F)) (tcCall >>= fun _ => (pure ⟨⟩ : Prog (TpuEff nD τ sig (Elt F) (SparseCore.Sig (ΛP (F := F)) 1) .tc) PUnit))
  have e0 := StableHlo.seq_bind_seqK (ops0 (F := F)) ((K (F := F)).run d 0 >>= fun _ => StableHlo.seqK (ops1 (F := F)) (tcCall >>= fun _ => pure ⟨⟩))
  simp only [e1, e0]
  rfl

/-- The unscoped buffers of a device's TensorCore. -/
def ucRefs : Finset (DevRef τ sig) := (StableHlo.tcRefs τ sig).filter fun b => ¬ b.isScoped

theorem unscopedBufs_held (c : Dev nD) (W : Valuation τ sig (Elt F)) :
    (unscopedBufs c (fun b => W (Proc.devRef .tc b)) : sProp 𝕄) = StableHlo.held (T c) ucRefs W := by
  unfold unscopedBufs StableHlo.held ucRefs StableHlo.tcRefs
  rw [Finset.filter_map, bigSep_map]
  rfl

theorem sub_uc {ops : List (HloOp τ sig (Elt F))} (h : ops.Forall fun op => op.bufs ⊆ StableHlo.tcRefs τ sig) :
    ∀ op ∈ ops, op.bufs ⊆ ucRefs := fun op hop b hb =>
  Finset.mem_filter.mpr ⟨(List.forall_iff_forall_mem.mp h) op hop hb, fun h' => Bool.false_ne_true ((op.no_scoped b hb).symm.trans h')⟩

theorem ops0_sub : ∀ op ∈ (ops0 : List (HloOp τ sig (Elt F))), op.bufs ⊆ ucRefs :=
  sub_uc ⟨StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub ..⟩
theorem ops1_sub : ∀ op ∈ (ops1 : List (HloOp τ sig (Elt F))), op.bufs ⊆ ucRefs :=
  sub_uc ⟨StableHlo.reshape_bufs_sub .., StableHlo.reshape_bufs_sub .., StableHlo.reshape_bufs_sub ..⟩
theorem ops0_fresh : ∀ op ∈ (ops0 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl⟩
theorem ops1_fresh : ∀ op ∈ (ops1 : List (HloOp τ sig (Elt F))), op.fresh = ∅ :=
  List.forall_iff_forall_mem.mp ⟨rfl, rfl, rfl⟩

/-- The buffers as the SparseCore call finds them. -/
abbrev V1 (V : Valuation τ sig (Elt F)) : Valuation τ sig (Elt F) := StableHlo.after ops0 V

/-- The relative positions, one row per token, as the SparseCore call finds them. -/
theorem V1_v0 (V : Valuation τ sig (Elt F)) : V1 V (Proc.devRef .tc main_v0)
    = shapeCast S4096x1024 (V (Proc.devRef .tc main_arg1)) shapeCasts_S4x1024x1024_S4096x1024 := by
  simp only [V1, ops0]; after_results_simp; rfl

theorem V1_v17 (V : Valuation τ sig (Elt F)) : V1 V (Proc.devRef .tc main_v17)
    = shapeCast S65536x128 (V (Proc.devRef .tc main_arg3)) shapeCasts_S4x2048x1024_S65536x128 := by
  simp only [V1, ops0]; after_results_simp; rfl

theorem V1_v16 (V : Valuation τ sig (Elt F)) : V1 V (Proc.devRef .tc main_v16)
    = shapeCast S1x32768 (addi (broadcastInDim S4096x8 ![0, 1] bcast_S4096x1_S4096x8_0_1
        (muli (shapeCast S4096x1 (shapeCast S1x4096 (addi (V (Proc.devRef .tc main_arg4))
          (broadcastInDim S4x1024 ![0, 1] bcast_S4x1_S4x1024_0_1 (broadcastInDim S4x1 ![0] bcast_S4_S4x1_0
            (muli (iotaInDim S4 32 0) (broadcastInDim S4 ![] bcast_S_S4 (constantI S_ 32 2048#32))))))
          shapeCasts_S4x1024_S1x4096) shapeCasts_S1x4096_S4096x1)
          (broadcastInDim S4096x1 ![] bcast_S_S4096x1 (constantI S_ 32 8#32))))
        (broadcastInDim S4096x8 ![0, 1] bcast_S1x8_S4096x8_0_1 (broadcastInDim S1x8 ![1] bcast_S8_S1x8_1 (iotaInDim S8 32 0))))
      shapeCasts_S4096x8_S1x32768 := by
  simp only [V1, ops0]; after_results_simp; rfl

theorem V1_arg0 (V : Valuation τ sig (Elt F)) : V1 V (Proc.devRef .tc main_arg0) = V (Proc.devRef .tc main_arg0) := by
  simp only [V1, ops0]; after_results_simp
theorem V1_arg1 (V : Valuation τ sig (Elt F)) : V1 V (Proc.devRef .tc main_arg1) = V (Proc.devRef .tc main_arg1) := by
  simp only [V1, ops0]; after_results_simp
theorem V1_arg2 (V : Valuation τ sig (Elt F)) : V1 V (Proc.devRef .tc main_arg2) = V (Proc.devRef .tc main_arg2) := by
  simp only [V1, ops0]; after_results_simp
theorem V1_arg3 (V : Valuation τ sig (Elt F)) : V1 V (Proc.devRef .tc main_arg3) = V (Proc.devRef .tc main_arg3) := by
  simp only [V1, ops0]; after_results_simp
theorem V1_arg4 (V : Valuation τ sig (Elt F)) : V1 V (Proc.devRef .tc main_arg4) = V (Proc.devRef .tc main_arg4) := by
  simp only [V1, ops0]; after_results_simp
theorem V1_arg5 (V : Valuation τ sig (Elt F)) : V1 V (Proc.devRef .tc main_arg5) = V (Proc.devRef .tc main_arg5) := by
  simp only [V1, ops0]; after_results_simp
theorem V1_arg6 (V : Valuation τ sig (Elt F)) : V1 V (Proc.devRef .tc main_arg6) = V (Proc.devRef .tc main_arg6) := by
  simp only [V1, ops0]; after_results_simp
theorem V1_arg7 (V : Valuation τ sig (Elt F)) : V1 V (Proc.devRef .tc main_arg7) = V (Proc.devRef .tc main_arg7) := by
  simp only [V1, ops0]; after_results_simp
theorem V1_arg8 (V : Valuation τ sig (Elt F)) : V1 V (Proc.devRef .tc main_arg8) = V (Proc.devRef .tc main_arg8) := by
  simp only [V1, ops0]; after_results_simp

/-- The index list and the table, the positions and the position table, as the SparseCore call finds them. -/
abbrev ixOf (V : Valuation τ sig (Elt F)) : Vec F S1x32768 .i32 := V1 V (Proc.devRef .tc main_v16)
abbrev rpOf (V : Valuation τ sig (Elt F)) : Vec F S4096x1024 .i32 := V1 V (Proc.devRef .tc main_v0)
abbrev tbOf (V : Valuation τ sig (Elt F)) : Vec F S65536x128 .f32 := V1 V (Proc.devRef .tc main_v17)
abbrev ptOf (V : Valuation τ sig (Elt F)) : Vec F S64 .f32 := V1 V (Proc.devRef .tc main_arg6)

/-- The buffers as the SparseCore call leaves them: its two results hold the bias and the gathered rows. -/
def V2 (V : Valuation τ sig (Elt F)) : Valuation τ sig (Elt F) :=
  Function.update (Function.update (V1 V) (Proc.devRef .tc main_v18_0) (bias (ptOf V) (rpOf V)))
    (Proc.devRef .tc main_v18_1) (gath (tbOf V) (ixOf V))

theorem V2_bias (V : Valuation τ sig (Elt F)) : V2 V (Proc.devRef .tc main_v18_0) = bias (ptOf V) (rpOf V) := by
  unfold V2
  rw [Function.update_of_ne (StableHlo.devRef_ne_of_ne (by decide)), Function.update_self]
theorem V2_gath (V : Valuation τ sig (Elt F)) : V2 V (Proc.devRef .tc main_v18_1) = gath (tbOf V) (ixOf V) := by
  unfold V2
  rw [Function.update_self]
theorem V2_ne (V : Valuation τ sig (Elt F)) (b : DevRef τ sig) (h0 : b ≠ Proc.devRef .tc main_v18_0) (h1 : b ≠ Proc.devRef .tc main_v18_1) :
    V2 V b = V1 V b := by
  unfold V2
  rw [Function.update_of_ne h1, Function.update_of_ne h0]

/-- The buffers as the TensorCore call finds them. -/
abbrev V3 (V : Valuation τ sig (Elt F)) : Valuation τ sig (Elt F) := StableHlo.after ops1 (V2 V)

theorem V3_v19 (V : Valuation τ sig (Elt F)) : V3 V (Proc.devRef .tc main_v19)
    = shapeCast S4x1024x1024 (bias (ptOf V) (rpOf V)) shapeCasts_S4096x1024_S4x1024x1024 := by
  rw [← V2_bias]
  simp only [V3, ops1]; after_results_simp; rfl
theorem V3_v20 (V : Valuation τ sig (Elt F)) : V3 V (Proc.devRef .tc main_v20)
    = shapeCast S4x1024x1024 (gath (tbOf V) (ixOf V)) shapeCasts_S32768x128_S4x1024x1024 := by
  rw [← V2_gath]
  simp only [V3, ops1]; after_results_simp; rfl
theorem V3_v21 (V : Valuation τ sig (Elt F)) : V3 V (Proc.devRef .tc main_v21)
    = shapeCast S1x1024 (V (Proc.devRef .tc main_arg8)) shapeCasts_S1024_S1x1024 := by
  have e : V2 V (Proc.devRef .tc main_arg8) = V (Proc.devRef .tc main_arg8) :=
    (V2_ne V _ (StableHlo.devRef_ne_of_ne (by decide)) (StableHlo.devRef_ne_of_ne (by decide))).trans (V1_arg8 V)
  rw [← e]
  simp only [V3, ops1]; after_results_simp; rfl
theorem V3_arg0 (V : Valuation τ sig (Elt F)) : V3 V (Proc.devRef .tc main_arg0) = V (Proc.devRef .tc main_arg0) := by
  refine Eq.trans ?_ ((V2_ne V _ (StableHlo.devRef_ne_of_ne (by decide)) (StableHlo.devRef_ne_of_ne (by decide))).trans (V1_arg0 V))
  simp only [V3, ops1]; after_results_simp
theorem V3_arg1 (V : Valuation τ sig (Elt F)) : V3 V (Proc.devRef .tc main_arg1) = V (Proc.devRef .tc main_arg1) := by
  refine Eq.trans ?_ ((V2_ne V _ (StableHlo.devRef_ne_of_ne (by decide)) (StableHlo.devRef_ne_of_ne (by decide))).trans (V1_arg1 V))
  simp only [V3, ops1]; after_results_simp
theorem V3_arg2 (V : Valuation τ sig (Elt F)) : V3 V (Proc.devRef .tc main_arg2) = V (Proc.devRef .tc main_arg2) := by
  refine Eq.trans ?_ ((V2_ne V _ (StableHlo.devRef_ne_of_ne (by decide)) (StableHlo.devRef_ne_of_ne (by decide))).trans (V1_arg2 V))
  simp only [V3, ops1]; after_results_simp
theorem V3_arg3 (V : Valuation τ sig (Elt F)) : V3 V (Proc.devRef .tc main_arg3) = V (Proc.devRef .tc main_arg3) := by
  refine Eq.trans ?_ ((V2_ne V _ (StableHlo.devRef_ne_of_ne (by decide)) (StableHlo.devRef_ne_of_ne (by decide))).trans (V1_arg3 V))
  simp only [V3, ops1]; after_results_simp
theorem V3_arg4 (V : Valuation τ sig (Elt F)) : V3 V (Proc.devRef .tc main_arg4) = V (Proc.devRef .tc main_arg4) := by
  refine Eq.trans ?_ ((V2_ne V _ (StableHlo.devRef_ne_of_ne (by decide)) (StableHlo.devRef_ne_of_ne (by decide))).trans (V1_arg4 V))
  simp only [V3, ops1]; after_results_simp
theorem V3_arg5 (V : Valuation τ sig (Elt F)) : V3 V (Proc.devRef .tc main_arg5) = V (Proc.devRef .tc main_arg5) := by
  refine Eq.trans ?_ ((V2_ne V _ (StableHlo.devRef_ne_of_ne (by decide)) (StableHlo.devRef_ne_of_ne (by decide))).trans (V1_arg5 V))
  simp only [V3, ops1]; after_results_simp
theorem V3_arg6 (V : Valuation τ sig (Elt F)) : V3 V (Proc.devRef .tc main_arg6) = V (Proc.devRef .tc main_arg6) := by
  refine Eq.trans ?_ ((V2_ne V _ (StableHlo.devRef_ne_of_ne (by decide)) (StableHlo.devRef_ne_of_ne (by decide))).trans (V1_arg6 V))
  simp only [V3, ops1]; after_results_simp
theorem V3_arg7 (V : Valuation τ sig (Elt F)) : V3 V (Proc.devRef .tc main_arg7) = V (Proc.devRef .tc main_arg7) := by
  refine Eq.trans ?_ ((V2_ne V _ (StableHlo.devRef_ne_of_ne (by decide)) (StableHlo.devRef_ne_of_ne (by decide))).trans (V1_arg7 V))
  simp only [V3, ops1]; after_results_simp
theorem V3_arg8 (V : Valuation τ sig (Elt F)) : V3 V (Proc.devRef .tc main_arg8) = V (Proc.devRef .tc main_arg8) := by
  refine Eq.trans ?_ ((V2_ne V _ (StableHlo.devRef_ne_of_ne (by decide)) (StableHlo.devRef_ne_of_ne (by decide))).trans (V1_arg8 V))
  simp only [V3, ops1]; after_results_simp

end Cert.Proof.IT

end
-- ==== Proof.ICall.lean ====
/-
The TensorCore call as one step of the program: its arrays' contents before and after.
-/
module

public import proofs.«01_k».proof.Proof.IRegion
public import proofs.«01_k».proof.Proof.IHost

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (Dat Cfg Window BodyObligation cellOf arrRef pin PLaunchFacts RegionSeg LevelCut afterRegion arrRefs cellsGhost toksInit)

variable {F : FTy → Type} [FloatOps F]

local notation "𝕄" => MT nD τ sig (HIx 1) (Elt F) ℕ UU ℕ

abbrev adm : (p : Fin 1) → (pcfgs (F := F) p).Adm := fun p => (cfgs p).toPCfg_adm
abbrev pin1 : (p : Fin 1) → Cfg sig Λ₀ := pin (pcfgs (F := F)) adm

/-- The pipeline's facts. -/
theorem kit : PLaunchFacts (nD := nD) (τ := τ) (pcfgs (F := F)) 0 := launch1.toP

theorem phinj : Function.Injective (cellOf (nD := nD) (τ := τ) (pin1 (F := F))) := (kit (F := F)).cellOf_inj adm

def pdats (V : Dev nD → Valuation τ sig (Elt F)) : (p : Fin 1) → (c : Dev nD) → Dat τ (Elt F) (HIx 1) ℕ UU ℕ (pin1 (F := F) p) c
  | 0 => fun c => dat (V c) c

/-- The levels: the staging waits are at the lowest, and nothing is owed. -/
theorem cut : LevelCut (pcfgs (F := F)) adm (none : HIx 1) (K (F := F)).L (K (F := F)).lev 0 (fun _ : Dev nD => 0) (fun _ => 0) where
  hι _ _ _ := Finset.mem_univ _
  hιb c w s := le_of_eq ((K (F := F)).lev_none _)
  hD _ _ _ h := absurd h (lt_irrefl 0)

theorem rest_in (V : Dev nD → Valuation τ sig (Elt F)) (c : Dev nD) :
    iprop(Pipeline.scopedRest (pin1 (F := F) 0).spec c ∗ emp) ⊢ (pdats V 0 c).Φ 0 := by
  show iprop(Pipeline.scopedRest spec1 c ∗ emp) ⊢ Pipeline.scopedRest spec1 c
  exact sep_elim_left

theorem rest_out (V : Dev nD → Valuation τ sig (Elt F)) (c : Dev nD) :
    (pdats V 0 c).Φ (Fin.last (pin1 (F := F) 0).N) ⊢ iprop(Pipeline.scopedRest (pin1 (F := F) 0).spec c ∗ emp) := by
  show Pipeline.scopedRest spec1 c ⊢ iprop(Pipeline.scopedRest spec1 c ∗ emp)
  iintro H; isplitl [H]; · iexact H
  iempintro

theorem arr_start (V : Dev nD → Valuation τ sig (Elt F)) (c : Dev nD) (w) :
    (pdats V 0 c).arrAt w 0 = V c (Proc.devRef .tc (arrRef (pin1 (F := F) 0).spec w)) := rfl

set_option backward.isDefEq.respectTransparency.types false in
/-- The TensorCore call's record: entered and left with every unscoped buffer. -/
def seg (V : Dev nD → Valuation τ sig (Elt F)) :
    RegionSeg (pcfgs (F := F)) adm (pdats V) (none : HIx 1) (defs₀ (F := F)) 𝒱₀ (K (F := F)).L (K (F := F)).lev 0 :=
  RegionSeg.ofHeldIn (pcfgs (F := F)) adm (pdats V) (none : HIx 1) (defs₀ (F := F)) 𝒱₀ (K (F := F)).L (K (F := F)).lev 0 (fun _ => 0)
    ucRefs (fun _ => iprop(emp)) (fun _ => iprop(emp)) kit rfl
    (fun c => (body_obligation (V c) c none).loose) (fun _ _ => rfl) (fun _ => rfl) (fun c => (dat (V c) c).share_full fun _ => rfl)
    (rest_in V) (rest_out V) (fun _ => 0) cut (fun _ => iprop(emp)) V (arr_start V)

theorem arrs_sub : arrRefs (pcfgs (F := F) 0).spec ⊆ ucRefs := by
  intro b hb
  unfold arrRefs at hb
  obtain ⟨r, hr, rfl⟩ := Finset.mem_map.mp hb
  clear hb
  obtain ⟨w, -, rfl⟩ := Finset.mem_image.mp hr
  refine Finset.mem_filter.mpr ⟨Finset.mem_map.mpr ⟨_, Finset.mem_univ _, rfl⟩, ?_⟩
  exact (by decide : ∀ w : Fin 8, ¬ (Proc.devRef .tc (arrRef spec1 w) : DevRef τ sig).isScoped) w

theorem tcCall_eq : (tcCall : Prog (TpuEff nD τ sig (Elt F) (SparseCore.Sig (ΛP (F := F)) 1) .tc) PUnit)
    = SparseCore.liftProg (Prog.lift (.customCall (Pipeline.entry (0 : Fin 1)) ()) : Prog (TpuEff nD τ sig (Elt F) (ΛP (F := F)) .tc) PUnit) := rfl

set_option backward.isDefEq.respectTransparency.types false in
theorem seg_pre (V : Dev nD → Valuation τ sig (Elt F)) (d : Dev nD) :
    iprop(StableHlo.held (T d) ucRefs (V d) ∗ ((∃ W, owes (T d) 0 W) ∗ emp ∗ emp)) ⊢ ((seg V).pre d : sProp 𝕄) := by
  unfold seg
  exact RegionSeg.ofHeldIn_pre (pcs := pcfgs (F := F)) (a := adm) (pdats := pdats V) (ι := (none : HIx 1)) (defs₀ := defs₀ (F := F)) (𝒱₀ := 𝒱₀)
    (L := (K (F := F)).L) (lv := (K (F := F)).lev) (p := 0) (D := fun _ => 0) (S := ucRefs) (X := fun _ => iprop(emp)) (Y := fun _ => iprop(emp))
    (kit := kit) (hK := rfl) (hbody := fun c => (body_obligation (V c) c none).loose) (howed := fun _ _ => rfl) (hrec := fun _ => rfl)
    (hshare := fun c => (dat (V c) c).share_full fun _ => rfl) (hin := rest_in V) (hout := rest_out V) (b := fun _ => 0) (hcut := cut)
    (R := fun _ => iprop(emp)) (W := V) (hW := arr_start V) arrs_sub d

set_option backward.isDefEq.respectTransparency.types false in
theorem seg_post (V : Dev nD → Valuation τ sig (Elt F)) (d : Dev nD) :
    ((seg V).post d : sProp 𝕄) ⊢ iprop(StableHlo.held (T d) ucRefs (afterRegion (dat (V d) d) (V d)) ∗ ((∃ W, owes (T d) 0 W) ∗ emp ∗ emp)) := by
  unfold seg
  exact RegionSeg.ofHeldIn_post (pcs := pcfgs (F := F)) (S := ucRefs) arrs_sub d

set_option backward.isDefEq.respectTransparency.types false in
/-- What the call's record asks, from the unscoped buffers. -/
theorem seg_in (V : Dev nD → Valuation τ sig (Elt F)) (d : Dev nD) (Φ : PUnit → sProp 𝕄) :
    iprop((iprop(boundary (T d) ∗ StableHlo.held (T d) ucRefs (afterRegion (dat (V d) d) (V d)) ∗ ∃ W, owes (T d) 0 W) -∗ Φ ⟨⟩)
        ∗ boundary (T d) ∗ (StableHlo.held (T d) ucRefs (V d) ∗ ∃ W, owes (T d) 0 W) ∗ levAts (K (F := F)).L (K (F := F)).lev
        ∗ cellsGhost (pin1 (F := F)) EP 0 d ∗ toksInit (pin1 (F := F)) EP 0 d)
      ⊢ iprop((iprop(boundary (T d) ∗ (seg V).post d) -∗ wp frame (wpE (Pipeline.defs pcfgs (defs₀ (F := F))) 𝒱₀.lift (T d) none) Set.univ (.ret ⟨⟩) Φ)
        ∗ boundary (T d) ∗ (seg V).pre d ∗ levAts (K (F := F)).L (K (F := F)).lev
        ∗ cellsGhost (pin1 (F := F)) EP 0 d ∗ toksInit (pin1 (F := F)) EP 0 d) := by
  iintro ⟨Hk, Hb, ⟨Hh, HO⟩, Hl, Hc, Ht⟩
  isplitl [Hk]
  · iintro ⟨Hb, Hp⟩
    ihave Hp := (seg_post V d) $$ Hp
    icases Hp with ⟨Hh, HO, -, -⟩
    rw [wp_ret]; imodintro
    iapply Hk
    isplitl [Hb]; · iexact Hb
    isplitl [Hh]; · iexact Hh
    iexact HO
  isplitl [Hb]; · iexact Hb
  isplitl [Hh HO]
  · iapply (seg_pre V d)
    isplitl [Hh]; · iexact Hh
    isplitl [HO]; · iexact HO
    isplitl <;> iempintro
  isplitl [Hl]; · iexact Hl
  isplitl [Hc]; · iexact Hc
  iexact Ht

set_option backward.isDefEq.respectTransparency.types false in
/-- The TensorCore call takes the unscoped buffers from `V` to what the pipeline leaves of `V`. -/
theorem tc_step (V : Dev nD → Valuation τ sig (Elt F)) (d : Dev nD) (Φ : PUnit → sProp 𝕄) :
    iprop((iprop(boundary (T d) ∗ StableHlo.held (T d) ucRefs (afterRegion (dat (V d) d) (V d)) ∗ ∃ W, owes (T d) 0 W) -∗ Φ ⟨⟩)
        ∗ boundary (T d) ∗ (StableHlo.held (T d) ucRefs (V d) ∗ ∃ W, owes (T d) 0 W) ∗ levAts (K (F := F)).L (K (F := F)).lev
        ∗ cellsGhost (pin1 (F := F)) EP 0 d ∗ toksInit (pin1 (F := F)) EP 0 d)
      ⊢ wp frame (wpE ((K (F := F)).defs (D (F := F))) 𝒱 (T d) none) Set.univ (tcCall (F := F)) Φ := by
  rw [tcCall_eq]
  refine BI.Entails.trans ?_ ((K (F := F)).wp_liftProg (D (F := F)) 𝒱 (T d) Set.univ none _ Φ)
  have h := RegionSeg.wp (pcfgs (F := F)) adm (pdats V) (none : HIx 1) phinj EP (defs₀ (F := F)) 𝒱₀ (K (F := F)).L (K (F := F)).lev
    (seg V) d none (fun u hu => absurd hu (by simp)) (fun _ => .ret ⟨⟩) Φ
  exact (seg_in V d Φ).trans h

end Cert.Proof.IT

end
-- ==== Proof.IPay.lean ====
/-
The program's launch: what the SparseCore call moves, the run of @main, and the run of all the threads.
-/
module

public import proofs.«01_k».proof.Proof.ISplit
public import proofs.«01_k».proof.Proof.ICall

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (afterRegion cellsGhost toksInit arrRef)

variable {F : FTy → Type} [FloatOps F]

local notation "𝕄" => MT nD τ sig (HIx 1) (Elt F) ℕ UU ℕ

variable (m : (ℓ : Loc nD τ sig) → Buf (Elt F) ℓ) (ρ : Dev nD → PrngReg)

/-- A device's buffers at the launch. -/
abbrev M0 (d : Dev nD) : Valuation τ sig (Elt F) := fun b => m (d, b)

/-- What the SparseCore call asks of its operands: every row it names and every bucket it looks up is there. -/
def PreOK : Prop := ∀ d : Dev nD, (∀ j, (ixOf (M0 m d) j).toNat < 65536) ∧ ∀ j, (rpOf (M0 m d) j).toNat < 64

/-- The two results of the call before and after it. -/
abbrev go0 (d : Dev nD) : Buf (Elt F) (goLoc d) := V1 (M0 m d) (Proc.devRef .tc main_v18_1)
abbrev bo0 (d : Dev nD) : Buf (Elt F) (boLoc d) := V1 (M0 m d) (Proc.devRef .tc main_v18_0)
abbrev go1 (d : Dev nD) : Buf (Elt F) (goLoc d) := gath (tbOf (M0 m d)) (ixOf (M0 m d))
abbrev bo1 (d : Dev nD) : Buf (Elt F) (boLoc d) := bias (ptOf (M0 m d)) (rpOf (M0 m d))

/-- One task's parts, the results at `fo` and `fb`. -/
abbrev Part (d : Dev nD) (c : Fin 2) (s : Fin 16) (fo : Buf (Elt F) (goLoc d)) (fb : Buf (Elt F) (boLoc d)) : sProp 𝕄 :=
  iprop(Ins d (coordsV c s) (tbOf (M0 m d)) (ixOf (M0 m d)) (rpOf (M0 m d)) (ptOf (M0 m d)) ∗ OutF d (coordsV c s) fo fb)

/-- What the handshakes carry: a SparseCore its tasks' parts, a task its own. -/
def P : (K (F := F)).Pay (nD := nD) (Val := Elt F) (Name := ℕ) (U := UU) where
  st := fun q d c => match q with | 0 => bigSep Finset.univ fun s : Fin 16 => Part m d (Fin.cast nCore_zero c) s (go0 m d) (bo0 m d)
  dn := fun q d c => match q with | 0 => bigSep Finset.univ fun s : Fin 16 => Part m d (Fin.cast nCore_zero c) s (go1 m d) (bo1 m d)
  go := fun q d c i => match q with | 0 => Part m d (Fin.cast nCore_zero c) (Fin.cast nSub_zero i) (go0 m d) (bo0 m d)
  td := fun q d c i => match q with | 0 => Part m d (Fin.cast nCore_zero c) (Fin.cast nSub_zero i) (go1 m d) (bo1 m d)
  x := fun _ _ => iprop(emp)

instance P_storable : (P (F := F) m).IsStorable where
  st q d c := match q with
    | 0 => (inferInstance : BI.Storable (upEmb : UEmb _ 𝕄) (bigSep Finset.univ fun s : Fin 16 => Part m d (Fin.cast nCore_zero c) s (go0 m d) (bo0 m d)))
  dn q d c := match q with
    | 0 => (inferInstance : BI.Storable (upEmb : UEmb _ 𝕄) (bigSep Finset.univ fun s : Fin 16 => Part m d (Fin.cast nCore_zero c) s (go1 m d) (bo1 m d)))
  go q d c i := match q with
    | 0 => (inferInstance : BI.Storable (upEmb : UEmb _ 𝕄) (Part m d (Fin.cast nCore_zero c) (Fin.cast nSub_zero i) (go0 m d) (bo0 m d)))
  td q d c i := match q with
    | 0 => (inferInstance : BI.Storable (upEmb : UEmb _ 𝕄) (Part m d (Fin.cast nCore_zero c) (Fin.cast nSub_zero i) (go1 m d) (bo1 m d)))

theorem defs₀_vector (c : Fin τ.nSC) (s : Fin τ.nSub) :
    defs₀ (F := F) (.scVector c s) 0 ()
      = SparseCore.onTile hcore0 hsub0 (fun c s => cc0_sc_kernel (coordsV c s) (Memref.whole main_v0_scv) (Memref.isWhole_whole _) (Memref.whole main_v16_scv) (Memref.isWhole_whole _) (Memref.whole main_v17_scv) (Memref.isWhole_whole _) (Memref.whole main_arg6_scv) (Memref.isWhole_whole _) (Memref.whole main_v18_0_scv) (Memref.isWhole_whole _) (Memref.whole main_v18_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scoped0 cc0_scoped1 (Memref.whole cc0_scoped2) (Memref.isWhole_whole _) cc0_scoped3 (Memref.whole cc0_scoped4) (Memref.isWhole_whole _) cc0_scoped5) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (tbOf (M0 m d)) (ixOf (M0 m d)) (rpOf (M0 m d)) (ptOf (M0 m d)) hF (hpre d).1 (hpre d).2
    (go0 m d) (bo0 m d) O W hO

theorem vecSplit : (K (F := F)).VecSplit' (P m) 0 := by
  intro d c
  show (bigSep Finset.univ fun s : Fin 16 => Part m d (Fin.cast nCore_zero c) s (go0 m d) (bo0 m d)) ⊢ |={Set.univ}=> iprop(
      (bigSep Finset.univ fun i : Fin ((K (F := F)).nSub 0) => Part m d (Fin.cast nCore_zero c) (Fin.cast nSub_zero i) (go0 m d) (bo0 m d))
      ∗ ((bigSep Finset.univ fun i : Fin ((K (F := F)).nSub 0) => Part m d (Fin.cast nCore_zero c) (Fin.cast nSub_zero i) (go1 m d) (bo1 m d))
          -∗ bigSep Finset.univ fun s : Fin 16 => Part m d (Fin.cast nCore_zero c) s (go1 m d) (bo1 m d)))
  iintro H; imodintro
  isplitl [H]; · iexact H
  iintro H; iexact H

/-! ## The launch element of the ghost state -/

def u₀ : UU := (initOf (K (F := F)).hsCells (K (F := F)).hsToks,
  (initOf (Pipeline.cells (pin1 (F := F)) phinj) (Pipeline.launchToks (pin1 (F := F)) phinj), 1))

/-- The TensorCore call's ghost state on a device. -/
abbrev G (d : Dev nD) : sProp 𝕄 := iprop(cellsGhost (pin1 (F := F)) EP 0 d ∗ toksInit (pin1 (F := F)) EP 0 d)

theorem ghost_one (Φ : Fin 1 → Dev nD → sProp 𝕄) : (bigSep Finset.univ fun d : Dev nD => bigSep Finset.univ fun p : Fin 1 => Φ p d) = bigSep Finset.univ fun d => Φ 0 d :=
  bigSep_congr fun _ _ => bigSep_univ_of_subsingleton (0 : Fin 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pin1 (F := F)) phinj) (Pipeline.launchToks (pin1 (F := F)) phinj), (1 : Counters)) : UP × Counters)) $$ Hu
  icases H with ⟨HH, HR⟩
  ihave H := (own_pair_emb (embR : Emb (UP × Counters) 𝕄) (initOf (Pipeline.cells (pin1 (F := F)) phinj) (Pipeline.launchToks (pin1 (F := F)) phinj)) (1 : Counters)) $$ HR
  icases H with ⟨HP, -⟩
  imod (Pipeline.fund_ghost (pin1 (F := F)) EP phinj) $$ HP with ⟨Hc, Ht⟩
  imodintro
  isplitl [HH]; · iexact HH
  isplitl [Hc Ht]
  · rw [bigSep_sep']
    isplitl [Hc]
    · iapply (Entails.of_eq (ghost_one (F := F) fun p d => cellsGhost (pin1 (F := F)) EP p d)); iexact Hc
    · iapply (Entails.of_eq (ghost_one (F := F) fun p d => toksInit (pin1 (F := F)) EP p d)); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

end Cert.Proof.IT

end
-- ==== Proof.IMain.lean ====
/-
The run of @main on the TensorCore, and the run of all the threads.
-/
module

public import proofs.«01_k».proof.Proof.IPay

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (afterRegion afterRegion_arr afterRegion_keeps cellsGhost toksInit arrRef)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The six buffers of the SparseCore call among the unscoped ones -/

/-- The buffers of the SparseCore call. -/
def sixRefs : Finset (DevRef τ sig) :=
  {Proc.devRef .tc main_v0, Proc.devRef .tc main_v16, Proc.devRef .tc main_v17, Proc.devRef .tc main_arg6, Proc.devRef .tc main_v18_1, Proc.devRef .tc main_v18_0}

theorem six_sub : sixRefs ⊆ ucRefs := by decide

theorem regroup (a b c e g h : sProp 𝕄) : iprop(a ∗ b ∗ c ∗ e ∗ g ∗ h) = iprop((a ∗ b ∗ c ∗ e) ∗ g ∗ h) := by
  refine BI.Entails.antisymm (show iprop(a ∗ b ∗ c ∗ e ∗ g ∗ h) ⊢ iprop((a ∗ b ∗ c ∗ e) ∗ g ∗ h) from ?_) (show iprop((a ∗ b ∗ c ∗ e) ∗ g ∗ h) ⊢ iprop(a ∗ b ∗ c ∗ e ∗ g ∗ h) from ?_)
  · iintro ⟨A, B, C, E, G, H⟩
    isplitl [A B C E]
    · isplitl [A]; · iexact A
      isplitl [B]; · iexact B
      isplitl [C]; · iexact C
      iexact E
    isplitl [G]; · iexact G
    iexact H
  · iintro ⟨⟨A, B, C, E⟩, G, H⟩
    isplitl [A]; · iexact A
    isplitl [B]; · iexact B
    isplitl [C]; · iexact C
    isplitl [E]; · iexact E
    isplitl [G]; · iexact G
    iexact H

/-- Holding them is `Six`. -/
theorem held_six (d : Dev nD) (V : Valuation τ sig (Elt F)) : (StableHlo.held (T d) sixRefs V : sProp 𝕄)
    = Six d (V (Proc.devRef .tc main_v17)) (V (Proc.devRef .tc main_v16)) (V (Proc.devRef .tc main_v0)) (V (Proc.devRef .tc main_arg6))
        (V (Proc.devRef .tc main_v18_1)) (V (Proc.devRef .tc main_v18_0)) := by
  unfold StableHlo.held sixRefs Six
  rw [SparseCore.bigSep_insert' (by decide), SparseCore.bigSep_insert' (by decide), SparseCore.bigSep_insert' (by decide),
    SparseCore.bigSep_insert' (by decide), SparseCore.bigSep_insert' (by decide), bigSep_singleton]
  exact regroup _ _ _ _ _ _

/-- The unscoped buffers before the call: its six and the rest. -/
theorem held_V1 (d : Dev nD) : (StableHlo.held (T d) ucRefs (V1 (M0 m d)) : sProp 𝕄)
    = iprop(Six d (tbOf (M0 m d)) (ixOf (M0 m d)) (rpOf (M0 m d)) (ptOf (M0 m d)) (go0 m d) (bo0 m d)
        ∗ StableHlo.held (T d) (ucRefs \ sixRefs) (V1 (M0 m d))) := by
  rw [StableHlo.held_sub_split (T d) six_sub (V1 (M0 m d)), held_six]

/-- The unscoped buffers after it: its six, the results written, and the same rest. -/
theorem held_V2 (d : Dev nD) : (StableHlo.held (T d) ucRefs (V2 (M0 m d)) : sProp 𝕄)
    = iprop(Six d (tbOf (M0 m d)) (ixOf (M0 m d)) (rpOf (M0 m d)) (ptOf (M0 m d)) (go1 m d) (bo1 m d)
        ∗ StableHlo.held (T d) (ucRefs \ sixRefs) (V1 (M0 m d))) := by
  rw [StableHlo.held_sub_split (T d) six_sub (V2 (M0 m d)), held_six, V2_bias, V2_gath,
    V2_ne _ (Proc.devRef .tc main_v17) (by decide) (by decide), V2_ne _ (Proc.devRef .tc main_v16) (by decide) (by decide),
    V2_ne _ (Proc.devRef .tc main_v0) (by decide) (by decide), V2_ne _ (Proc.devRef .tc main_arg6) (by decide) (by decide),
    StableHlo.held_congr (T d) (V := V2 (M0 m d)) (V' := V1 (M0 m d)) fun b hb => V2_ne _ b
      (fun e => (Finset.mem_sdiff.mp hb).2 (e ▸ by decide)) (fun e => (Finset.mem_sdiff.mp hb).2 (e ▸ by decide))]

theorem st_all (d : Dev nD) : (bigSep Finset.univ fun c : Fin ((K (F := F)).nCore 0) => (P m).st 0 d c)
    = All d (tbOf (M0 m d)) (ixOf (M0 m d)) (rpOf (M0 m d)) (ptOf (M0 m d)) (go0 m d) (bo0 m d) := rfl
theorem dn_all (d : Dev nD) : (bigSep Finset.univ fun c : Fin ((K (F := F)).nCore 0) => (P m).dn 0 d c)
    = All d (tbOf (M0 m d)) (ixOf (M0 m d)) (rpOf (M0 m d)) (ptOf (M0 m d)) (go1 m d) (bo1 m d) := rfl

/-! ## What the TensorCore owes after the SparseCore call -/

/-- The one call's block of indices. -/
abbrev Zb : SparseCore.Cfg.Blocks 1 1 := inferInstance

/-- The rest of its state after the call. -/
abbrev tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (Zb.last q)) 1)))

theorem below_all (d : Dev nD) (W : Waits sig (HIx 1)) : (K (F := F)).WBelow (T d) W (8 * Zb.fst 1) := by
  intro p _
  rcases p.2 with _ | q
  · rw [(K (F := F)).lev_none]; omega
  · have h := (K (F := F)).lev_some_le (T d, p.1) q
    have hq : q.val = 0 := by omega
    have h1 : Zb.fst 1 = 1 := rfl
    omega

theorem tcSt_open (d : Dev nD) : ((K (F := F)).tcSt EH d 1 : sProp 𝕄) = iprop((∃ W, owes (T d) 0 W) ∗ tcRest d) := by
  unfold SparseCore.Cfg.tcSt
  rw [(K (F := F)).Otc_end d le_rfl]
  refine congrArg (fun A => iprop(A ∗ tcRest d)) ?_
  refine BI.Entails.antisymm (show iprop(∃ W, ⌜(K (F := F)).WBelow (T d) W (8 * Zb.fst 1)⌝ ∗ owes (T d) 0 W) ⊢ (iprop(∃ W, owes (T d) 0 W) : sProp 𝕄) from ?_)
    (show (iprop(∃ W, owes (T d) 0 W) : sProp 𝕄) ⊢ iprop(∃ W, ⌜(K (F := F)).WBelow (T d) W (8 * Zb.fst 1)⌝ ∗ owes (T d) 0 W) from ?_)
  · iintro ⟨%W, -, H⟩; iexists W; iexact H
  · iintro ⟨%W, H⟩; iexists W; isplitr
    · ipureintro; exact below_all d W
    iexact H

/-! ## The run of @main -/

/-- The unscoped buffers at the end. -/
abbrev Vend (d : Dev nD) : Valuation τ sig (Elt F) := afterRegion (dat (V3 (M0 m d)) d) (V3 (M0 m d))
abbrev FIN (d : Dev nD) : sProp 𝕄 := StableHlo.held (T d) ucRefs (Vend m d)

theorem start_held (d : Dev nD) : (unscopedBufs d (fun b => m ((SparseCore.T d).loc b)) : sProp 𝕄) = StableHlo.held (T d) ucRefs (M0 m d) := by
  unfold unscopedBufs StableHlo.held ucRefs StableHlo.tcRefs
  rw [Finset.filter_map, bigSep_map]
  rfl

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, start_held m d]
  iintro ⟨#Hctx, Hst, ⟨Hb, Hu, Hts, -⟩, Hc, Ht⟩
  ihave Hl := ((K (F := F)).ctx_levAts (EH := EH) (P := P m) κ) $$ Hctx
  iapply (StableHlo.wp_seq 𝒱 none Set.univ d ucRefs _ ops0 ops0_sub ops0_fresh (M0 m d)) $$ [Hb Hu]
  · isplitl [Hb]; · iexact Hb
    iexact Hu
  iintro ⟨Hb, Hu⟩
  ihave Hu := (Entails.of_eq (held_V1 m d)) $$ Hu
  icases Hu with ⟨H6, Hrest⟩
  ihave H6 := (Entails.of_eq (six_eq d (tbOf (M0 m d)) (ixOf (M0 m d)) (rpOf (M0 m d)) (ptOf (M0 m d)) (go0 m d) (bo0 m d))) $$ H6
  icases H6 with ⟨Hrem, Hall⟩
  rw [wp_bind]
  iapply ((K (F := F)).wp_run (D (F := F)) 𝒱 (EH := EH) (P := P m) κ d 0)
  isplitr; · iexact Hctx
  isplitl [Hst]; · iexact Hst
  isplitl [Hall]
  · iapply (Entails.of_eq (st_all m d).symm); iexact Hall
  iintro ⟨Hst, Hdn⟩
  ihave Hall := (Entails.of_eq (dn_all m d)) $$ Hdn
  ihave Hu := (Entails.of_eq (held_V2 m d).symm) $$ [Hrem Hall Hrest]
  · isplitl [Hrem Hall]
    · iapply (Entails.of_eq (six_eq d (tbOf (M0 m d)) (ixOf (M0 m d)) (rpOf (M0 m d)) (ptOf (M0 m d)) (go1 m d) (bo1 m d)).symm)
      isplitl [Hrem]; · iexact Hrem
      iexact Hall
    iexact Hrest
  iapply (StableHlo.wp_seq 𝒱 none Set.univ d ucRefs _ ops1 ops1_sub ops1_fresh (V2 (M0 m d))) $$ [Hb Hu]
  · isplitl [Hb]; · iexact Hb
    iexact Hu
  iintro ⟨Hb, Hu⟩
  ihave Hst := (show (K (F := F)).tcSt EH d ((0 : Fin 1).val + 1) ⊢ iprop((∃ W, owes (T d) 0 W) ∗ tcRest (F := F) d) from Entails.of_eq (tcSt_open (F := F) d)) $$ Hst
  icases Hst with ⟨HO, Hrs⟩
  rw [wp_bind]
  iapply (tc_step (fun d => V3 (M0 m d)) d)
  isplitr [Hb Hu HO Hl Hc Ht]
  · iintro ⟨Hb, Hu, HO⟩
    rw [wp_pure]; imodintro
    isplitl [HO Hrs]
    · iapply (Entails.of_eq (tcSt_open (F := F) d).symm)
      isplitl [HO]; · iexact HO
      iexact Hrs
    isplitl [Hu]; · iexact Hu
    isplitl [Hb]; · iexact Hb
    iexact Hts
  isplitl [Hb]; · iexact Hb
  isplitl [Hu HO]
  · isplitl [Hu]; · iexact Hu
    iexact HO
  isplitl [Hl]; · iexact Hl
  isplitl [Hc]; · iexact Hc
  iexact Ht

/-! ## The run of all the threads -/

def fq (d : Dev nD) (s' : Phys nD τ sig (Elt F)) : Prop := ∀ b ∈ ucRefs, s'.mem.mem (d, b) = Vend m d b

theorem hfin (d : Dev nD) (s' : Phys nD τ sig (Elt F)) : iprop(FIN m d ∗ SI s') ⊢ (⌜fq m d s'⌝ : sProp 𝕄) := by
  have key : ∀ b ∈ ucRefs, iprop(FIN m d ∗ SI s') ⊢ (⌜s'.mem.mem (d, b) = Vend m d b⌝ : sProp 𝕄) := by
    intro b hb
    iintro ⟨Hu, HSI⟩
    ihave Hb := (show FIN m d ⊢ ((d, b) ↦{fullShare} Vend m d b : sProp 𝕄) from bigSep_elim (Φ := fun b => ((d, b) ↦{fullShare} Vend m d b : sProp 𝕄)) hb) $$ Hu
    ihave H := (SI_pointsTo_agree (st := s') (ℓ := (d, b)) (I := Finset.univ) (q := fullShare) (f := Vend m d b)) $$ [HSI Hb]
    · isplitl [HSI] <;> iassumption
    icases H with %h
    ipureintro
    exact funext fun i => h i (Finset.mem_univ i)
  exact ((forall_intro fun b : {b // b ∈ ucRefs} => key b.1 b.2).trans pure_forall.2).trans (Laws.pure_mono fun all b hb => all ⟨b, hb⟩)

def QC : PUnit × MemSt nD τ sig (Elt F) → Prop := fun r => (∀ c : Dev nD, ∀ b ∈ ucRefs, r.2.mem (c, b) = Vend m c b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.IT

end
-- ==== Proof.IOk.lean ====
/-
The index list of the SparseCore call, element by element, and its bounds under the precondition; the frame claim.
-/
module

public import proofs.«01_k».proof.Proof.IMain
public import proofs.«01_k».proof.Defs
public import proofs.«01_k».proof.Proof.Gen.Pre_in_range
public import Idealize.ShloMosaic.Lib.ReduceAll
public import Idealize.ShloMosaic.Lib.Pointwise

@[expose] public section

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (afterRegion afterRegion_arr afterRegion_keeps arrRef)

variable {F : FTy → Type} [FloatOps F]

local notation "𝕄" => MT nD τ sig (HIx 1) (Elt F) ℕ UU ℕ

/-- The precondition, element by element. -/
theorem in_range_at (a0 : FVec F S4x1024x1024 .f32) (a1 : IVec S4x1024x1024 32) (a2 : FVec F S4x1024x1024 .f32) (a3 : FVec F S4x2048x1024 .f32)
    (a4 : IVec S4x1024 32) (a5 : FVec F S1024x1024 .f32) (a6 : FVec F S64 .f32) (a7 : FVec F S1024x1024 .f32) (a8 : FVec F S1024 .f32)
    (h : Cert.Pre_in_range.fn (F := F) a0 a1 a2 a3 a4 a5 a6 a7 a8 = fun _ => 1#1) :
    (∀ i, (a1 i).toNat < 64) ∧ ∀ i, (a4 i).toNat < 2048 := by
  have andi_eq_one (p q : BitVec 1) : IntOp.andi p q = 1#1 → p = 1#1 ∧ q = 1#1 := by revert p q; decide
  have key (v b : BitVec 32) (hb : b.toNat < 2 ^ 31) (h1 : IntOp.cmpi .sge v 0#32 = 1#1) (h2 : IntOp.cmpi .slt v b = 1#1) : v.toNat < b.toNat := by
    have e1 := IntOp.cmpi_sge.1 h1
    have e2 := IntOp.cmpi_slt.1 h2
    simp only [BitVec.toInt_eq_toNat_cond, BitVec.toNat_ofNat, Nat.reducePow, Nat.reduceMod] at e1 e2 hb
    omega
  have e := congrFun h ix0
  simp only [Cert.Pre_in_range.fn, andi] at e
  obtain ⟨e, e4⟩ := andi_eq_one _ _ e
  obtain ⟨e, e3⟩ := andi_eq_one _ _ e
  obtain ⟨e1, e2⟩ := andi_eq_one _ _ e
  exact ⟨fun i => key _ 64#32 (by decide) (Host.reduce_andi_all _ _ _ _ _ e1 i) (Host.reduce_andi_all _ _ _ _ _ e2 i),
    fun i => key _ 2048#32 (by decide) (Host.reduce_andi_all _ _ _ _ _ e3 i) (Host.reduce_andi_all _ _ _ _ _ e4 i)⟩

/-- The index list at a position: the table's row of the aligned word, times eight, and the lane block. -/
theorem ixOf_at (V : Valuation τ sig (Elt F)) (j : Fin 32768) : ixOf V (ix2 0 j)
    = IntOp.addi (IntOp.muli (IntOp.addi ((V (Proc.devRef .tc main_arg4) : IVec S4x1024 32) (ix2 ⟨j.val / 8 / 1024, by omega⟩ ⟨j.val / 8 % 1024, by omega⟩))
        (IntOp.muli (BitVec.ofNat 32 (j.val / 8 / 1024)) 2048#32)) 8#32) (BitVec.ofNat 32 (j.val % 8)) := by
  have h := V1_v16 V
  show V1 V (Proc.devRef .tc main_v16) (ix2 0 j) = _
  rw [h]
  pointwise

theorem rpOf_at (V : Valuation τ sig (Elt F)) (r : Fin 4096) (k : Fin 1024) : rpOf V (ix2 r k)
    = (V (Proc.devRef .tc main_arg1) : IVec S4x1024x1024 32) (ix3 ⟨r.val / 1024, by omega⟩ ⟨r.val % 1024, by omega⟩ k) := by
  show V1 V (Proc.devRef .tc main_v0) (ix2 r k) = _
  rw [V1_v0 V]
  pointwise

/-- The word of the index list, as a number. -/
theorem ix_word (a : BitVec 32) (b p : ℕ) (ha : a.toNat < 2048) (hb : b < 4) (hp : p < 8) :
    (IntOp.addi (IntOp.muli (IntOp.addi a (IntOp.muli (BitVec.ofNat 32 b) 2048#32)) 8#32) (BitVec.ofNat 32 p)).toNat = (a.toNat + 2048 * b) * 8 + p := by
  simp only [IntOp.addi, IntOp.muli, BitVec.toNat_add, BitVec.toNat_mul, BitVec.toNat_ofNat, Nat.reducePow, Nat.reduceMod]
  omega

theorem ixOf_toNat (V : Valuation τ sig (Elt F)) (h : ∀ i, ((V (Proc.devRef .tc main_arg4) : IVec S4x1024 32) i).toNat < 2048) (j : Fin 32768) :
    (ixOf V (ix2 0 j)).toNat
      = (((V (Proc.devRef .tc main_arg4) : IVec S4x1024 32) (ix2 ⟨j.val / 8 / 1024, by omega⟩ ⟨j.val / 8 % 1024, by omega⟩)).toNat + 2048 * (j.val / 8 / 1024)) * 8 + j.val % 8 := by
  rw [ixOf_at, ix_word _ _ _ (h _) (by omega) (by omega)]

theorem ok_of_range (m : (ℓ : Loc nD τ sig) → Buf (Elt F) ℓ)
    (h : ∀ d : Dev nD, (∀ i, ((M0 m d (Proc.devRef .tc main_arg1) : IVec S4x1024x1024 32) i).toNat < 64)
      ∧ ∀ i, ((M0 m d (Proc.devRef .tc main_arg4) : IVec S4x1024 32) i).toNat < 2048) : PreOK m := by
  intro d
  refine ⟨fun j => ?_, fun j => ?_⟩
  · obtain ⟨k, rfl⟩ : ∃ k : Fin 32768, j = ix2 0 k := ⟨j 1, (eq_ix2 j).trans (congrArg (fun z : Fin 1 => (ix2 z (j 1) : S1x32768.Idx)) (Subsingleton.elim _ _))⟩
    rw [ixOf_toNat _ (h d).2]
    have h1 := (h d).2 (ix2 ⟨k.val / 8 / 1024, by omega⟩ ⟨k.val / 8 % 1024, by omega⟩)
    change BitVec.toNat ((M0 m d (Proc.devRef .tc main_arg4) : IVec S4x1024 32) _) < 2048 at h1
    have h2 : k.val < 32768 := k.isLt
    omega
  · obtain ⟨r, k, rfl⟩ : ∃ (r : Fin 4096) (k : Fin 1024), j = ix2 r k := ⟨j 0, j 1, eq_ix2 j⟩
    rw [rpOf_at]
    exact (h d).1 _

/-! ## The arguments at the end -/

set_option backward.isDefEq.respectTransparency.types false in
theorem Vend_arg (m : (ℓ : Loc nD τ sig) → Buf (Elt F) ℓ) (d : Dev nD) (r : Ref sig .tc) (h : ∀ w : Fin 8, arrRef spec1 w = r → (win1 w).isOut = false)
    (h3 : V3 (M0 m d) (Proc.devRef .tc r) = M0 m d (Proc.devRef .tc r)) : Vend m d (Proc.devRef .tc r) = M0 m d (Proc.devRef .tc r) :=
  (afterRegion_keeps (dat (V3 (M0 m d)) d) (V3 (M0 m d)) winFacts1.arr_inj (fun _ => rfl) r h).trans h3

/-- The arguments end as they began. -/
theorem args_kept (m : (ℓ : Loc nD τ sig) → Buf (Elt F) ℓ) (s : MemSt nD τ sig (Elt F)) (c : Dev nD) (h : ∀ b ∈ ucRefs, s.mem (c, b) = Vend m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) := by
  refine ⟨?_, ?_, ?_, ?_, ?_, ?_, ?_, ?_, ?_⟩
  · exact (h (Proc.devRef .tc main_arg0) (by decide)).trans (Vend_arg m c main_arg0 (by decide) (V3_arg0 _))
  · exact (h (Proc.devRef .tc main_arg1) (by decide)).trans (Vend_arg m c main_arg1 (by decide) (V3_arg1 _))
  · exact (h (Proc.devRef .tc main_arg2) (by decide)).trans (Vend_arg m c main_arg2 (by decide) (V3_arg2 _))
  · exact (h (Proc.devRef .tc main_arg3) (by decide)).trans (Vend_arg m c main_arg3 (by decide) (V3_arg3 _))
  · exact (h (Proc.devRef .tc main_arg4) (by decide)).trans (Vend_arg m c main_arg4 (by decide) (V3_arg4 _))
  · exact (h (Proc.devRef .tc main_arg5) (by decide)).trans (Vend_arg m c main_arg5 (by decide) (V3_arg5 _))
  · exact (h (Proc.devRef .tc main_arg6) (by decide)).trans (Vend_arg m c main_arg6 (by decide) (V3_arg6 _))
  · exact (h (Proc.devRef .tc main_arg7) (by decide)).trans (Vend_arg m c main_arg7 (by decide) (V3_arg7 _))
  · exact (h (Proc.devRef .tc main_arg8) (by decide)).trans (Vend_arg m c main_arg8 (by decide) (V3_arg8 _))

/-- The frame claim. -/
theorem frame_claim : Cert.quiescent_KernelIdeal := fun m g hpre =>
  (θ_run Cert.KernelIdeal.defs _ _).mono (fun r h => ⟨fun c => args_kept m r.2 c (h.1 c), h.2⟩)
    (run_main (F := Ideal) m g (ok_of_range m fun d => in_range_at _ _ _ _ _ _ _ _ _ (hpre d)))

end Cert.Proof.IT

end
-- ==== Proof.IArr.lean ====
/-
  The arrays that the TensorCore call finds, and what its body stores, element by element over the reals.
-/
module

public import proofs.«01_k».proof.Proof.IOk
public import Idealize.ShloMosaic.Lib.Pointwise
public import Idealize.ShloMosaic.Lib.Pipeline.ValueKit

@[expose] public section

set_option maxRecDepth 16384

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (afterRegion afterRegion_arr afterRegion_keeps arrRef)

local notation "𝕄" => MT nD τ sig (HIx 1) (Elt Ideal) ℕ UU ℕ

/-- What the body stores, at an element of its block. -/
theorem outV_at (x0 x1 : Vec Ideal S1x512x1024 .f32) (x2 : Vec Ideal S1x1024x1024 .f32) (x3 : Vec Ideal S1x512x1024 .f32) (x4 x5 : Vec Ideal S1024x1024 .f32)
    (x6 : Vec Ideal S1x1024 .f32) (z : Fin 1) (r : Fin 512) (j : Fin 1024) :
    outV x0 x1 x2 x3 x4 x5 x6 (ix3 z r j)
      = Ideal.ofBits FTy.f32 0x3F4CCCCD#32 *
        max (∑ e : Fin 1024, (∑ k : Fin 1024, (x0 (ix3 0 r k) + x1 (ix3 0 r k)) * x2 (ix3 0 k e)) * x4 (ix2 e j)) 0 +
      Ideal.ofBits FTy.f32 0x3E4CCCCD#32 * Ideal.tanh ((∑ k : Fin 1024, x3 (ix3 0 r k) * x5 (ix2 k j)) + x6 (ix2 0 j)) := by
  pointwise [outV, k1_pay1, k1_pay2]

variable (V : Valuation τ sig (Elt Ideal))

theorem v19_at (h : ∀ i, ((V (Proc.devRef .tc main_arg1) : IVec S4x1024x1024 32) i).toNat < 64) (b : Fin 4) (i k : Fin 1024) :
    (V3 V (Proc.devRef .tc main_v19) : FVec Ideal S4x1024x1024 .f32) (ix3 b i k)
      = (V (Proc.devRef .tc main_arg6) : FVec Ideal S64 .f32) (ix1 ⟨((V (Proc.devRef .tc main_arg1) : IVec S4x1024x1024 32) (ix3 b i k)).toNat, h _⟩) := by
  have hp : ptOf V = V (Proc.devRef .tc main_arg6) := V1_arg6 V
  have hc : shapeCast S4x1024x1024 (bias (ptOf V) (rpOf V)) shapeCasts_S4096x1024_S4x1024x1024 (ix3 b i k)
      = bias (ptOf V) (rpOf V) (ix2 ⟨b.val * 1024 + i.val, by omega⟩ k) := by
    pointwise
  rw [V3_v19]
  refine hc.trans ?_
  have hr := rpOf_at V ⟨b.val * 1024 + i.val, by omega⟩ k
  have e1 : (ix3 ⟨(b.val * 1024 + i.val) / 1024, by omega⟩ ⟨(b.val * 1024 + i.val) % 1024, by omega⟩ k : S4x1024x1024.Idx) = ix3 b i k := by
    have a1 : (⟨(b.val * 1024 + i.val) / 1024, by omega⟩ : Fin 4) = b := Fin.ext (by show (b.val * 1024 + i.val) / 1024 = b.val; omega)
    have a2 : (⟨(b.val * 1024 + i.val) % 1024, by omega⟩ : Fin 1024) = i := Fin.ext (by show (b.val * 1024 + i.val) % 1024 = i.val; omega)
    rw [a1, a2]
  have hr' : rpOf V (ix2 ⟨b.val * 1024 + i.val, by omega⟩ k) = (V (Proc.devRef .tc main_arg1) : IVec S4x1024x1024 32) (ix3 b i k) :=
    hr.trans (congrArg (V (Proc.devRef .tc main_arg1) : IVec S4x1024x1024 32) e1)
  show ptOf V (mk1 64 (rpOf V (ix2 ⟨b.val * 1024 + i.val, by omega⟩ k)).toNat) = _
  rw [hr', hp]
  exact congrArg (V (Proc.devRef .tc main_arg6) : FVec Ideal S64 .f32) (eq_mk1 (n := 64) (ix1 ⟨_, h (ix3 b i k)⟩) rfl).symm

/-- The row table at a row of the flattened array and a lane of its 128. -/
theorem tb_at (q : ℕ) (hq : q < 2048) (b : Fin 4) (k : Fin 1024) :
    tbOf V (mk2 65536 128 ((q + 2048 * b.val) * 8 + k.val / 128) (k.val % 128))
      = (V (Proc.devRef .tc main_arg3) : FVec Ideal S4x2048x1024 .f32) (ix3 b ⟨q, hq⟩ k) := by
  have e4 : (mk2 65536 128 ((q + 2048 * b.val) * 8 + k.val / 128) (k.val % 128) : S65536x128.Idx)
      = ix2 ⟨(q + 2048 * b.val) * 8 + k.val / 128, by omega⟩ ⟨k.val % 128, by omega⟩ :=
    (eq_mk2 (n := 65536) (m := 128) (ix2 ⟨(q + 2048 * b.val) * 8 + k.val / 128, by omega⟩ ⟨k.val % 128, by omega⟩) rfl rfl).symm
  rw [e4]
  show V1 V (Proc.devRef .tc main_v17) _ = _
  rw [V1_v17]
  pointwise
  blk_ext

theorem v20_at (h : ∀ i, ((V (Proc.devRef .tc main_arg4) : IVec S4x1024 32) i).toNat < 2048) (b : Fin 4) (i k : Fin 1024) :
    (V3 V (Proc.devRef .tc main_v20) : FVec Ideal S4x1024x1024 .f32) (ix3 b i k)
      = (V (Proc.devRef .tc main_arg3) : FVec Ideal S4x2048x1024 .f32) (ix3 b ⟨((V (Proc.devRef .tc main_arg4) : IVec S4x1024 32) (ix2 b i)).toNat, h _⟩ k) := by
  have hc : shapeCast S4x1024x1024 (gath (tbOf V) (ixOf V)) shapeCasts_S32768x128_S4x1024x1024 (ix3 b i k)
      = gath (tbOf V) (ixOf V) (ix2 ⟨(b.val * 1024 + i.val) * 8 + k.val / 128, by omega⟩ ⟨k.val % 128, by omega⟩) := by
    pointwise
    blk_ext
  rw [V3_v20]
  refine hc.trans ?_
  have hx := ixOf_toNat V h ⟨(b.val * 1024 + i.val) * 8 + k.val / 128, by omega⟩
  have e1 : (ix2 ⟨((b.val * 1024 + i.val) * 8 + k.val / 128) / 8 / 1024, by omega⟩ ⟨((b.val * 1024 + i.val) * 8 + k.val / 128) / 8 % 1024, by omega⟩ : S4x1024.Idx) = ix2 b i := by
    have a1 : (⟨((b.val * 1024 + i.val) * 8 + k.val / 128) / 8 / 1024, by omega⟩ : Fin 4) = b := Fin.ext (by show ((b.val * 1024 + i.val) * 8 + k.val / 128) / 8 / 1024 = b.val; omega)
    have a2 : (⟨((b.val * 1024 + i.val) * 8 + k.val / 128) / 8 % 1024, by omega⟩ : Fin 1024) = i := Fin.ext (by show ((b.val * 1024 + i.val) * 8 + k.val / 128) / 8 % 1024 = i.val; omega)
    rw [a1, a2]
  have hx' : (ixOf V (ix2 0 ⟨(b.val * 1024 + i.val) * 8 + k.val / 128, by omega⟩)).toNat
      = (((V (Proc.devRef .tc main_arg4) : IVec S4x1024 32) (ix2 b i)).toNat + 2048 * b.val) * 8 + k.val / 128 := by
    refine hx.trans ?_
    have e2 := congrArg (fun y => ((V (Proc.devRef .tc main_arg4) : IVec S4x1024 32) y).toNat) e1
    dsimp only at e2 ⊢
    rw [e2]
    omega
  have hlt := h (ix2 b i)
  have e3 : (mk2 1 32768 0 ((b.val * 1024 + i.val) * 8 + k.val / 128) : S1x32768.Idx) = ix2 0 ⟨(b.val * 1024 + i.val) * 8 + k.val / 128, by omega⟩ :=
    (eq_mk2 (n := 1) (m := 32768) (ix2 0 ⟨(b.val * 1024 + i.val) * 8 + k.val / 128, by omega⟩) rfl rfl).symm
  show tbOf V (mk2 65536 128 (ixOf V (mk2 1 32768 0 ((b.val * 1024 + i.val) * 8 + k.val / 128))).toNat (k.val % 128)) = _
  rw [e3, hx']
  exact tb_at V _ hlt b k

theorem v21_at (j : Fin 1024) : (V3 V (Proc.devRef .tc main_v21) : FVec Ideal S1x1024 .f32) (ix2 0 j)
    = (V (Proc.devRef .tc main_arg8) : FVec Ideal S1024 .f32) (ix1 j) := by
  rw [V3_v21]
  pointwise

end Cert.Proof.IT

end
-- ==== Proof.RefTake.lean ====
/-
  The two lookups of the reference, `jnp.take` and `jnp.take_along_axis`, read at an index that is in range.
-/
module

public import proofs.«01_k».proof.Proof.Gen.ReferenceIdeal
public import Idealize.ShloMosaic.Lib.Pointwise
public import Idealize.ShloMosaic.Lib.ReduceAll
public import Idealize.ShloMosaic.Lib.Pipeline.ValueKit

@[expose] public section

set_option maxRecDepth 16384

noncomputable section

namespace Cert.Proof.RV

open Idealize.ShloMosaic Idealize.SL.Sem
open Cert.ReferenceIdeal

variable {α : Type}

/-- A word below a bound under 2^31 reads the same signed and unsigned, and the clamp leaves it. -/
theorem clamp_small (w : BitVec 32) (n : ℕ) (hn : n ≤ 2 ^ 31) (h : w.toNat < n) : min w.toInt.toNat (n - 1) = w.toNat := by
  simp only [BitVec.toInt_eq_toNat_cond, Nat.reducePow] at hn ⊢
  split <;> omega

/-- The table lookup at an index in range. -/
theorem take_at (x : S64.Idx → α) (idx : IVec S4x1024x1024x1 32) (b : Fin 4) (i k : Fin 1024) (h : (idx (ix4 b i k 0)).toNat < 64) :
    Host.gather gather_S64_S4x1024x1024x1_S4x1024x1024_n_0_n_n_0_3_1 x idx (ix3 b i k) = x (ix1 ⟨(idx (ix4 b i k 0)).toNat, h⟩) := by
  unfold Host.gather
  refine congrArg x (funext fun a => ?_)
  obtain rfl : a = 0 := Subsingleton.elim _ _
  refine Fin.ext ?_
  set d := gather_S64_S4x1024x1024x1_S4x1024x1024_n_0_n_n_0_3_1 with hd
  show d.start (ix3 b i k) idx 0 + d.batchCoord (ix3 b i k) 0 + d.offCoord (ix3 b i k) 0 = _
  rw [GatherDims.batchCoord_eq_zero _ _ _ List.not_mem_nil,
    GatherDims.offCoord_eq_zero _ _ _ (fun e => ((GatherDims.mem_sKept _ _).mp e).1 (List.mem_singleton.mpr rfl))]
  simp only [Nat.add_zero]
  unfold GatherDims.start
  rw [dif_pos (show (0 : Fin 1) ∈ d.startIndexMap from List.mem_singleton.mpr rfl)]
  have hsi : d.siIdx (ix3 b i k) ⟨List.idxOf (0 : Fin 1) d.startIndexMap, List.idxOf_lt_length_iff.2 (List.mem_singleton.mpr rfl)⟩
      = (ix4 b i k 0 : S4x1024x1024x1.Idx) := by
    funext z; refine Fin.ext ?_
    match z with
    | ⟨0, _⟩ => rfl
    | ⟨1, _⟩ => rfl
    | ⟨2, _⟩ => rfl
    | ⟨3, _⟩ => rfl
  rw [hsi]
  exact clamp_small _ 64 (by norm_num) h

/-- The lookup along the middle axis at an index in range. -/
theorem along_at (x : S4x2048x1024.Idx → α) (idx : IVec S4x1024x1024x1 32) (b : Fin 4) (i j : Fin 1024) (h : (idx (ix4 b i j 0)).toNat < 2048) :
    Host.gather gather_S4x2048x1024_S4x1024x1024x1_S4x1024x1024_n_1_02_02_1_3_111 x idx (ix3 b i j)
      = x (ix3 b ⟨(idx (ix4 b i j 0)).toNat, h⟩ j) := by
  unfold Host.gather
  refine congrArg x (funext fun a => ?_)
  refine Fin.ext ?_
  set d := gather_S4x2048x1024_S4x1024x1024x1_S4x1024x1024_n_1_02_02_1_3_111 with hd
  show d.start (ix3 b i j) idx a + d.batchCoord (ix3 b i j) a + d.offCoord (ix3 b i j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have m0 : (0 : Fin 3) ∈ d.operandBatchingDims := List.mem_cons_self
  have m2 : (2 : Fin 3) ∈ d.operandBatchingDims := List.mem_cons_of_mem _ (List.mem_singleton.mpr rfl)
  have n1 : (1 : Fin 3) ∉ d.operandBatchingDims := by
    show (1 : Fin 3) ∉ ([0, 2] : List (Fin 3)); decide
  have c1 : (1 : Fin 3) ∈ d.collapsedSliceDims := List.mem_singleton.mpr rfl
  rcases h012 with rfl | rfl | rfl
  · rw [GatherDims.start_batching _ _ _ _ m0, GatherDims.offCoord_eq_zero _ _ _ (fun e => ((GatherDims.mem_sKept _ _).mp e).2 m0)]
    simp only [Nat.zero_add, Nat.add_zero]
    unfold GatherDims.batchCoord
    rw [dif_pos m0]
    rfl
  · rw [GatherDims.batchCoord_eq_zero _ _ _ n1, GatherDims.offCoord_eq_zero _ _ _ (fun e => ((GatherDims.mem_sKept _ _).mp e).1 c1)]
    simp only [Nat.add_zero]
    unfold GatherDims.start
    rw [dif_pos (show (1 : Fin 3) ∈ d.startIndexMap from List.mem_singleton.mpr rfl)]
    have hsi : d.siIdx (ix3 b i j) ⟨List.idxOf (1 : Fin 3) d.startIndexMap, List.idxOf_lt_length_iff.2 (List.mem_singleton.mpr rfl)⟩
        = (ix4 b i j 0 : S4x1024x1024x1.Idx) := by
      funext z; refine Fin.ext ?_
      match z with
      | ⟨0, _⟩ => rfl
      | ⟨1, _⟩ => rfl
      | ⟨2, _⟩ => rfl
      | ⟨3, _⟩ => rfl
    rw [hsi]
    exact clamp_small _ 2048 (by norm_num) h
  · rw [GatherDims.start_batching _ _ _ _ m2, GatherDims.offCoord_eq_zero _ _ _ (fun e => ((GatherDims.mem_sKept _ _).mp e).2 m2)]
    simp only [Nat.zero_add, Nat.add_zero]
    unfold GatherDims.batchCoord
    rw [dif_pos m2]
    rfl

end Cert.Proof.RV
end
-- ==== Proof.RefVal.lean ====
/-
  The reference's result, element by element, where the indices are in range.
-/
module

public import proofs.«01_k».proof.Proof.RefTake
public import proofs.«01_k».proof.Proof.Gen.ReferenceIdeal.Run

@[expose] public section

set_option maxRecDepth 16384

noncomputable section

namespace Cert.Proof.RV

open Idealize.ShloMosaic Idealize.SL.Sem
open Cert.ReferenceIdeal Cert.ReferenceIdeal.Gen

/-- A word below 2^31 is not negative, so the wrap of a negative index leaves it. -/
theorem wrap_small (w k : BitVec 32) (h : w.toNat < 2 ^ 31) : Scalar.select (IntOp.cmpi .slt w 0#32) (IntOp.addi w k) w = w := by
  refine if_neg fun e => ?_
  have e1 := IntOp.cmpi_slt.1 e
  simp only [BitVec.toInt_eq_toNat_cond, BitVec.toNat_ofNat, Nat.reducePow, Nat.reduceMod] at e1 h
  omega

/-- A selection whose bit is one takes its first operand. -/
theorem sel_one {s : Shape} {α : Type} (c : IVec s 1) (x y : s.Idx → α) (i : s.Idx) (h : c i = 1#1) : select c x y i = x i :=
  if_pos h

/-- A word in a range passes the two comparisons of the mask. -/
theorem mask_small (w : BitVec 32) (n : BitVec 32) (hn : n.toNat < 2 ^ 31) (h : w.toNat ≤ n.toNat) :
    IntOp.andi (IntOp.cmpi .sge w 0#32) (IntOp.cmpi .sle w n) = 1#1 := by
  have e1 : IntOp.cmpi .sge w 0#32 = 1#1 := IntOp.cmpi_sge.2 (by
    simp only [BitVec.toInt_eq_toNat_cond, BitVec.toNat_ofNat, Nat.reducePow, Nat.reduceMod] at hn ⊢
    omega)
  have e2 : IntOp.cmpi .sle w n = 1#1 := IntOp.cmpi_sle.2 (by
    simp only [BitVec.toInt_eq_toNat_cond, BitVec.toNat_ofNat, Nat.reducePow, Nat.reduceMod] at hn ⊢
    omega)
  rw [e1, e2]; decide

/-- The start indices of the table lookup. -/
def relIdx (a1 : IVec S4x1024x1024 32) : IVec S4x1024x1024x1 32 :=
  broadcastInDim S4x1024x1024x1 ![0, 1, 2] bcast_S4x1024x1024_S4x1024x1024x1_0_1_2 (select (cmpi .slt a1 (broadcastInDim S4x1024x1024 ![] bcast_S_S4x1024x1024 (constantI S_ 32 0#32))) (addi a1 (broadcastInDim S4x1024x1024 ![] bcast_S_S4x1024x1024 (constantI S_ 32 64#32))) a1)

/-- The start indices of the lookup along the middle axis. -/
def aliIdx (a4 : IVec S4x1024 32) : IVec S4x1024x1024x1 32 :=
  shapeCast _ (select (cmpi .slt (broadcastInDim S4x1024x1024 ![0, 1, 2] bcast_S4x1024x1_S4x1024x1024_0_1_2 (broadcastInDim S4x1024x1 ![0, 1] bcast_S4x1024_S4x1024x1_0_1 a4)) (broadcastInDim S4x1024x1024 ![] bcast_S_S4x1024x1024 (constantI S_ 32 0#32))) (addi (broadcastInDim S4x1024x1024 ![0, 1, 2] bcast_S4x1024x1_S4x1024x1024_0_1_2 (broadcastInDim S4x1024x1 ![0, 1] bcast_S4x1024_S4x1024x1_0_1 a4)) (broadcastInDim S4x1024x1024 ![] bcast_S_S4x1024x1024 (constantI S_ 32 2048#32))) (broadcastInDim S4x1024x1024 ![0, 1, 2] bcast_S4x1024x1_S4x1024x1024_0_1_2 (broadcastInDim S4x1024x1 ![0, 1] bcast_S4x1024_S4x1024x1_0_1 a4))) shapeCasts_S4x1024x1024_S4x1024x1024x1

/-- Which start indices lie in `0 … n`, over the unit axis. -/
def inTo (idx : IVec S4x1024x1024x1 32) (n : BitVec 32) : IVec S4x1024x1024 1 :=
  Host.reduce IntOp.andi (andi (cmpi .sge idx (broadcastInDim S4x1024x1024x1 ![] bcast_S_S4x1024x1024x1 (constantI S_ 32 0#32))) (cmpi .sle idx (broadcastInDim S4x1024x1024x1 ![0, 1, 2, 3] bcast_S1x1x1x1_S4x1024x1024x1_0_1_2_3 (broadcastInDim S1x1x1x1 ![3] bcast_S1_S1x1x1x1_3 (constantI S1 32 n))))) (constantI S_ 1 1#1) reducesTo_S4x1024x1024x1_S4x1024x1024_d3 h_S_

theorem relIdx_at (a1 : IVec S4x1024x1024 32) (h : ∀ i, (a1 i).toNat < 64) (b : Fin 4) (i k : Fin 1024) (z : Fin 1) :
    relIdx a1 (ix4 b i k z) = a1 (ix3 b i k) := by
  refine Eq.trans ?_ (wrap_small (a1 (ix3 b i k)) 64#32 ((h _).trans (by norm_num)))
  pointwise [relIdx]

theorem aliIdx_at (a4 : IVec S4x1024 32) (h : ∀ i, (a4 i).toNat < 2048) (b : Fin 4) (i j : Fin 1024) (z : Fin 1) :
    aliIdx a4 (ix4 b i j z) = a4 (ix2 b i) := by
  refine Eq.trans ?_ (wrap_small (a4 (ix2 b i)) 2048#32 ((h _).trans (by norm_num)))
  pointwise [aliIdx]

theorem inTo_one (idx : IVec S4x1024x1024x1 32) (n : BitVec 32) (hn : n.toNat < 2 ^ 31) (h : ∀ i, (idx i).toNat ≤ n.toNat) (y) : inTo idx n y = 1#1 :=
  Host.reduce_andi_one _ _ _ _ y rfl fun i => mask_small (idx i) n hn (h i)

/-- The bias: the table at the relative positions. -/
def relT (a1 : IVec S4x1024x1024 32) (a6 : FVec Ideal S64 .f32) : FVec Ideal S4x1024x1024 .f32 :=
  select (inTo (relIdx a1) 63#32) (Host.gather gather_S64_S4x1024x1024x1_S4x1024x1024_n_0_n_n_0_3_1 a6 (relIdx a1)) (broadcastInDim S4x1024x1024 ![] bcast_S_S4x1024x1024 (constant S_ .f32 0x7FC00000#32))

/-- The rows of a table at the aligned positions. -/
def aliT (a4 : IVec S4x1024 32) (x : FVec Ideal S4x2048x1024 .f32) : FVec Ideal S4x1024x1024 .f32 :=
  select (inTo (aliIdx a4) 2047#32) (Host.gather gather_S4x2048x1024_S4x1024x1024x1_S4x1024x1024_n_1_02_02_1_3_111 x (aliIdx a4)) (broadcastInDim S4x1024x1024 ![] bcast_S_S4x1024x1024 (constant S_ .f32 0x7FC00000#32))

theorem ix_all (p : S4x1024x1024x1.Idx → Prop) (h : ∀ (b : Fin 4) (i k : Fin 1024) (z : Fin 1), p (ix4 b i k z)) (y) : p y := by
  obtain ⟨b, i, k, z, rfl⟩ : ∃ (b : Fin 4) (i k : Fin 1024) (z : Fin 1), y = ix4 b i k z := ⟨y 0, y 1, y 2, y 3, eq_ix4 y⟩
  exact h b i k z

theorem relT_at (a1 : IVec S4x1024x1024 32) (a6 : FVec Ideal S64 .f32) (h : ∀ i, (a1 i).toNat < 64) (b : Fin 4) (i k : Fin 1024) :
    relT a1 a6 (ix3 b i k) = a6 (ix1 ⟨(a1 (ix3 b i k)).toNat, h _⟩) := by
  have hm : inTo (relIdx a1) 63#32 (ix3 b i k) = 1#1 := inTo_one _ _ (by decide) (ix_all _ fun b i k z => by
    rw [relIdx_at a1 h]; exact Nat.le_of_lt_succ (h _)) _
  have hlt : (relIdx a1 (ix4 b i k 0)).toNat < 64 := by rw [relIdx_at a1 h]; exact h _
  refine (sel_one _ _ _ _ hm).trans ((take_at a6 (relIdx a1) b i k hlt).trans ?_)
  refine congrArg a6 (congrArg ix1 (Fin.ext ?_))
  show (relIdx a1 (ix4 b i k 0)).toNat = _
  rw [relIdx_at a1 h]

theorem aliT_at (a4 : IVec S4x1024 32) (x : FVec Ideal S4x2048x1024 .f32) (h : ∀ i, (a4 i).toNat < 2048) (b : Fin 4) (i j : Fin 1024) :
    aliT a4 x (ix3 b i j) = x (ix3 b ⟨(a4 (ix2 b i)).toNat, h _⟩ j) := by
  have hm : inTo (aliIdx a4) 2047#32 (ix3 b i j) = 1#1 := inTo_one _ _ (by decide) (ix_all _ fun b i k z => by
    rw [aliIdx_at a4 h]; exact Nat.le_of_lt_succ (h _)) _
  have hlt : (aliIdx a4 (ix4 b i j 0)).toNat < 2048 := by rw [aliIdx_at a4 h]; exact h _
  refine (sel_one _ _ _ _ hm).trans ((along_at x (aliIdx a4) b i j hlt).trans ?_)
  refine congrArg x (congrArg (fun z => ix3 b z j) (Fin.ext ?_))
  show (aliIdx a4 (ix4 b i j 0)).toNat = _
  rw [aliIdx_at a4 h]

/-- The reference's arithmetic around the two lookups. -/
def refOf (a0 : FVec Ideal S4x1024x1024 .f32) (rel : FVec Ideal S4x1024x1024 .f32) (a2 : FVec Ideal S4x1024x1024 .f32) (a5 : FVec Ideal S1024x1024 .f32)
    (lgv : FVec Ideal S4x1024x1024 .f32) : FVec Ideal S4x1024x1024 .f32 :=
  addf (mulf (broadcastInDim S4x1024x1024 ![] bcast_S_S4x1024x1024 (constant S_ .f32 0x3F4CCCCD#32)) (maximumf (Host.dotGeneral dot_S4x1024x1024_S1024x1024_S4x1024x1024_2_0_01_1_n_n none (Host.dotGeneral dot_S4x1024x1024_S4x1024x1024_S4x1024x1024_2_1_1_2_0_0 none (addf a0 rel) a2) a5) (broadcastInDim S4x1024x1024 ![] bcast_S_S4x1024x1024 (constant S_ .f32 0x00000000#32)))) (mulf (broadcastInDim S4x1024x1024 ![] bcast_S_S4x1024x1024 (constant S_ .f32 0x3E4CCCCD#32)) lgv)

/-- The table of the second lookup. -/
def lvOf (a3 : FVec Ideal S4x2048x1024 .f32) (a7 : FVec Ideal S1024x1024 .f32) (a8 : FVec Ideal S1024 .f32) : FVec Ideal S4x2048x1024 .f32 :=
  Host.tanh (addf (Host.dotGeneral dot_S4x2048x1024_S1024x1024_S4x2048x1024_2_0_01_1_n_n none a3 a7) (broadcastInDim S4x2048x1024 ![0, 1, 2] bcast_S1x1x1024_S4x2048x1024_0_1_2 (broadcastInDim S1x1x1024 ![2] bcast_S1024_S1x1x1024_2 a8)))

theorem res_eq (m : (ℓ : Loc nD τ sig) → Buf (Elt Ideal) ℓ) (c : Dev nD) : Value.res_main_v17 m c
    = refOf (m ((c.tc : Thread nD τ).loc main_arg0)) (relT (m ((c.tc : Thread nD τ).loc main_arg1)) (m ((c.tc : Thread nD τ).loc main_arg6)))
        (m ((c.tc : Thread nD τ).loc main_arg2)) (m ((c.tc : Thread nD τ).loc main_arg5))
        (aliT (m ((c.tc : Thread nD τ).loc main_arg4)) (lvOf (m ((c.tc : Thread nD τ).loc main_arg3)) (m ((c.tc : Thread nD τ).loc main_arg7)) (m ((c.tc : Thread nD τ).loc main_arg8)))) := rfl

theorem refOf_at (a0 rel a2 : FVec Ideal S4x1024x1024 .f32) (a5 : FVec Ideal S1024x1024 .f32) (lgv : FVec Ideal S4x1024x1024 .f32) (b : Fin 4) (i j : Fin 1024) :
    refOf a0 rel a2 a5 lgv (ix3 b i j) = Ideal.ofBits FTy.f32 0x3F4CCCCD#32 *
        max (∑ e : Fin 1024, (∑ k : Fin 1024, (a0 (ix3 b i k) + rel (ix3 b i k)) * a2 (ix3 b k e)) * a5 (ix2 e j)) 0 +
      Ideal.ofBits FTy.f32 0x3E4CCCCD#32 * lgv (ix3 b i j) := by
  pointwise [refOf]

theorem lvOf_at (a3 : FVec Ideal S4x2048x1024 .f32) (a7 : FVec Ideal S1024x1024 .f32) (a8 : FVec Ideal S1024 .f32) (b : Fin 4) (l : Fin 2048) (j : Fin 1024) :
    lvOf a3 a7 a8 (ix3 b l j) = Ideal.tanh ((∑ k : Fin 1024, a3 (ix3 b l k) * a7 (ix2 k j)) + a8 (ix1 j)) := by
  pointwise [lvOf]

/-- What both programs compute at an element, of the nine arguments. -/
def out (a0 : FVec Ideal S4x1024x1024 .f32) (a1 : IVec S4x1024x1024 32) (a2 : FVec Ideal S4x1024x1024 .f32) (a3 : FVec Ideal S4x2048x1024 .f32)
    (a4 : IVec S4x1024 32) (a5 : FVec Ideal S1024x1024 .f32) (a6 : FVec Ideal S64 .f32) (a7 : FVec Ideal S1024x1024 .f32) (a8 : FVec Ideal S1024 .f32)
    (h1 : ∀ i, (a1 i).toNat < 64) (h4 : ∀ i, (a4 i).toNat < 2048) (b : Fin 4) (i j : Fin 1024) : EReal :=
  Ideal.ofBits FTy.f32 0x3F4CCCCD#32 *
        max (∑ e : Fin 1024, (∑ k : Fin 1024, (a0 (ix3 b i k) + a6 (ix1 ⟨(a1 (ix3 b i k)).toNat, h1 _⟩)) * a2 (ix3 b k e)) * a5 (ix2 e j)) 0 +
      Ideal.ofBits FTy.f32 0x3E4CCCCD#32 * Ideal.tanh ((∑ k : Fin 1024, a3 (ix3 b ⟨(a4 (ix2 b i)).toNat, h4 _⟩ k) * a7 (ix2 k j)) + a8 (ix1 j))

/-- The reference's result at an element. -/
theorem ref_out (a0 : FVec Ideal S4x1024x1024 .f32) (a1 : IVec S4x1024x1024 32) (a2 : FVec Ideal S4x1024x1024 .f32) (a3 : FVec Ideal S4x2048x1024 .f32)
    (a4 : IVec S4x1024 32) (a5 : FVec Ideal S1024x1024 .f32) (a6 : FVec Ideal S64 .f32) (a7 : FVec Ideal S1024x1024 .f32) (a8 : FVec Ideal S1024 .f32)
    (h1 : ∀ i, (a1 i).toNat < 64) (h4 : ∀ i, (a4 i).toNat < 2048) (b : Fin 4) (i j : Fin 1024) :
    refOf a0 (relT a1 a6) a2 a5 (aliT a4 (lvOf a3 a7 a8)) (ix3 b i j) = out a0 a1 a2 a3 a4 a5 a6 a7 a8 h1 h4 b i j := by
  rw [refOf_at, aliT_at _ _ h4, lvOf_at]
  simp only [relT_at _ _ h1]
  rfl

end Cert.Proof.RV
end
-- ==== Proof.IFin.lean ====
/-
  The result array after the TensorCore call, element by element, is what the reference computes there.
-/
module

public import proofs.«01_k».proof.Proof.IArr
public import proofs.«01_k».proof.Proof.RefVal

@[expose] public section

set_option maxRecDepth 16384

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (afterRegion afterRegion_arr afterRegion_keeps arrRef)

local notation "𝕄" => MT nD τ sig (HIx 1) (Elt Ideal) ℕ UU ℕ

variable (V : Valuation τ sig (Elt Ideal))

/-- The windows' block indices at every point of the grid. -/
theorem idx1 : ∀ t : Fin cfg1.N,
    win1_0.index t = ![t.val / 2, t.val % 2, 0] ∧ win1_1.index t = ![t.val / 2, t.val % 2, 0] ∧ win1_2.index t = ![t.val / 2, 0, 0]
      ∧ win1_3.index t = ![t.val / 2, t.val % 2, 0] ∧ win1_4.index t = ![0, 0] ∧ win1_5.index t = ![0, 0] ∧ win1_6.index t = ![0, 0]
      ∧ win1_7.index t = ![t.val / 2, t.val % 2, 0] ∧ t.val / 2 < 4 :=
  (by decide +kernel : ∀ t : Fin grid1.N, _)

theorem blk0_at (t : Fin cfg1.N) (r : Fin 512) (k : Fin 1024) : (iblk V 0 t : FVec Ideal S1x512x1024 .f32) (ix3 0 r k)
    = (V (Proc.devRef .tc main_arg0) : FVec Ideal S4x1024x1024 .f32) (ix3 ⟨t.val / 2, (idx1 t).2.2.2.2.2.2.2.2⟩ ⟨t.val % 2 * 512 + r.val, by omega⟩ k) := by
  blk_ext [iblk, idx1 t]
theorem blk1_at (t : Fin cfg1.N) (r : Fin 512) (k : Fin 1024) : (iblk V 1 t : FVec Ideal S1x512x1024 .f32) (ix3 0 r k)
    = (V (Proc.devRef .tc main_v19) : FVec Ideal S4x1024x1024 .f32) (ix3 ⟨t.val / 2, (idx1 t).2.2.2.2.2.2.2.2⟩ ⟨t.val % 2 * 512 + r.val, by omega⟩ k) := by
  blk_ext [iblk, idx1 t]
theorem blk2_at (t : Fin cfg1.N) (r : Fin 1024) (k : Fin 1024) : (iblk V 2 t : FVec Ideal S1x1024x1024 .f32) (ix3 0 r k)
    = (V (Proc.devRef .tc main_arg2) : FVec Ideal S4x1024x1024 .f32) (ix3 ⟨t.val / 2, (idx1 t).2.2.2.2.2.2.2.2⟩ r k) := by
  blk_ext [iblk, idx1 t]
theorem blk3_at (t : Fin cfg1.N) (r : Fin 512) (k : Fin 1024) : (iblk V 3 t : FVec Ideal S1x512x1024 .f32) (ix3 0 r k)
    = (V (Proc.devRef .tc main_v20) : FVec Ideal S4x1024x1024 .f32) (ix3 ⟨t.val / 2, (idx1 t).2.2.2.2.2.2.2.2⟩ ⟨t.val % 2 * 512 + r.val, by omega⟩ k) := by
  blk_ext [iblk, idx1 t]
theorem blk4_at (t : Fin cfg1.N) (r k : Fin 1024) : (iblk V 4 t : FVec Ideal S1024x1024 .f32) (ix2 r k)
    = (V (Proc.devRef .tc main_arg5) : FVec Ideal S1024x1024 .f32) (ix2 r k) := by
  blk_ext [iblk, idx1 t]
theorem blk5_at (t : Fin cfg1.N) (r k : Fin 1024) : (iblk V 5 t : FVec Ideal S1024x1024 .f32) (ix2 r k)
    = (V (Proc.devRef .tc main_arg7) : FVec Ideal S1024x1024 .f32) (ix2 r k) := by
  blk_ext [iblk, idx1 t]
theorem blk6_at (t : Fin cfg1.N) (k : Fin 1024) : (iblk V 6 t : FVec Ideal S1x1024 .f32) (ix2 0 k)
    = (V (Proc.devRef .tc main_v21) : FVec Ideal S1x1024 .f32) (ix2 0 k) := by
  blk_ext [iblk, idx1 t]

/-- The result array of the nine arguments. -/
def OUT (h1 : ∀ i, ((V (Proc.devRef .tc main_arg1) : IVec S4x1024x1024 32) i).toNat < 64) (h4 : ∀ i, ((V (Proc.devRef .tc main_arg4) : IVec S4x1024 32) i).toNat < 2048) :
    FVec Ideal S4x1024x1024 .f32 := fun y =>
  RV.out (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) h1 h4 (y 0) (y 1) (y 2)

/-- One element of one block. -/
theorem point (h1 : ∀ i, ((V (Proc.devRef .tc main_arg1) : IVec S4x1024x1024 32) i).toNat < 64) (h4 : ∀ i, ((V (Proc.devRef .tc main_arg4) : IVec S4x1024 32) i).toNat < 2048)
    (t : Fin cfg1.N) (z : Fin 1) (r : Fin 512) (j : Fin 1024) :
    outV (iblk (V3 V) 0 t) (iblk (V3 V) 1 t) (iblk (V3 V) 2 t) (iblk (V3 V) 3 t) (iblk (V3 V) 4 t) (iblk (V3 V) 5 t) (iblk (V3 V) 6 t) (ix3 z r j)
      = OUT V h1 h4 (ix3 ⟨t.val / 2, (idx1 t).2.2.2.2.2.2.2.2⟩ ⟨t.val % 2 * 512 + r.val, by omega⟩ j) := by
  refine (outV_at _ _ _ _ _ _ _ z r j).trans ?_
  simp only [blk0_at, blk1_at, blk2_at, blk3_at, blk4_at, blk5_at, blk6_at, v19_at V h1, v20_at V h4, v21_at V]
  rw [V3_arg0, V3_arg2, V3_arg5, V3_arg7]
  rfl

/-- The result array after the call. -/
theorem final (h1 : ∀ i, ((V (Proc.devRef .tc main_arg1) : IVec S4x1024x1024 32) i).toNat < 64) (h4 : ∀ i, ((V (Proc.devRef .tc main_arg4) : IVec S4x1024 32) i).toNat < 2048)
    (c : Dev nD) : (dat (V3 V) c).arrAt 7 cfg1.N = OUT V h1 h4 := by
  refine (dat (V3 V) c).arrAt_eq_of_covers 7 _ (by decide +kernel) fun t _ y => ?_
  blk_simp
  rw [dat_after7]
  obtain ⟨z, r, j, rfl⟩ : ∃ (z : Fin 1) (r : Fin 512) (j : Fin 1024), y = ix3 z r j := ⟨y 0, y 1, y 2, eq_ix3 y⟩
  refine (point V h1 h4 t z r j).trans ?_
  blk_ext [idx1 t]

end Cert.Proof.IT

end
-- ==== Proof.IAlg.lean ====
/-
  The value claim: the kernel's result and the reference's, from memories that agree on the arguments.
-/
module

public import proofs.«01_k».proof.Proof.IFin
public import proofs.«01_k».proof.Defs

@[expose] public section

set_option maxRecDepth 16384

noncomputable section

namespace Cert.Proof.IT

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)
open Idealize.ShloMosaic.Pipeline (afterRegion afterRegion_arr afterRegion_keeps arrRef)

local notation "𝕄" => MT nD τ sig (HIx 1) (Elt Ideal) ℕ UU ℕ

variable (m : (ℓ : Loc nD τ sig) → Buf (Elt Ideal) ℓ)

set_option backward.isDefEq.respectTransparency.types false in
/-- The result buffer at the end. -/
theorem Vend_out (d : Dev nD) (h1 : ∀ i, ((M0 m d (Proc.devRef .tc main_arg1) : IVec S4x1024x1024 32) i).toNat < 64)
    (h4 : ∀ i, ((M0 m d (Proc.devRef .tc main_arg4) : IVec S4x1024 32) i).toNat < 2048) :
    Vend m d (Proc.devRef .tc main_v22) = OUT (M0 m d) h1 h4 :=
  (afterRegion_arr (dat (V3 (M0 m d)) d) (V3 (M0 m d)) winFacts1.arr_inj 7).trans (final (M0 m d) h1 h4 d)

/-- The reference's result of the same arguments. -/
theorem ref_eq (m' : (ℓ : Loc Cert.ReferenceIdeal.nD Cert.ReferenceIdeal.τ Cert.ReferenceIdeal.sig) → Buf (Elt Ideal) ℓ) (d : Dev nD)
    (h1 : ∀ i, ((M0 m d (Proc.devRef .tc main_arg1) : IVec S4x1024x1024 32) i).toNat < 64)
    (h4 : ∀ i, ((M0 m d (Proc.devRef .tc main_arg4) : IVec S4x1024 32) i).toNat < 2048)
    (e0 : m' ((d.tc : Thread Cert.ReferenceIdeal.nD Cert.ReferenceIdeal.τ).loc Cert.ReferenceIdeal.main_arg0) = m ((d.tc : Thread nD τ).loc main_arg0))
    (e1 : m' ((d.tc : Thread Cert.ReferenceIdeal.nD Cert.ReferenceIdeal.τ).loc Cert.ReferenceIdeal.main_arg1) = m ((d.tc : Thread nD τ).loc main_arg1))
    (e2 : m' ((d.tc : Thread Cert.ReferenceIdeal.nD Cert.ReferenceIdeal.τ).loc Cert.ReferenceIdeal.main_arg2) = m ((d.tc : Thread nD τ).loc main_arg2))
    (e3 : m' ((d.tc : Thread Cert.ReferenceIdeal.nD Cert.ReferenceIdeal.τ).loc Cert.ReferenceIdeal.main_arg3) = m ((d.tc : Thread nD τ).loc main_arg3))
    (e4 : m' ((d.tc : Thread Cert.ReferenceIdeal.nD Cert.ReferenceIdeal.τ).loc Cert.ReferenceIdeal.main_arg4) = m ((d.tc : Thread nD τ).loc main_arg4))
    (e5 : m' ((d.tc : Thread Cert.ReferenceIdeal.nD Cert.ReferenceIdeal.τ).loc Cert.ReferenceIdeal.main_arg5) = m ((d.tc : Thread nD τ).loc main_arg5))
    (e6 : m' ((d.tc : Thread Cert.ReferenceIdeal.nD Cert.ReferenceIdeal.τ).loc Cert.ReferenceIdeal.main_arg6) = m ((d.tc : Thread nD τ).loc main_arg6))
    (e7 : m' ((d.tc : Thread Cert.ReferenceIdeal.nD Cert.ReferenceIdeal.τ).loc Cert.ReferenceIdeal.main_arg7) = m ((d.tc : Thread nD τ).loc main_arg7))
    (e8 : m' ((d.tc : Thread Cert.ReferenceIdeal.nD Cert.ReferenceIdeal.τ).loc Cert.ReferenceIdeal.main_arg8) = m ((d.tc : Thread nD τ).loc main_arg8)) :
    Cert.ReferenceIdeal.Value.res_main_v17 m' d = OUT (M0 m d) h1 h4 := by
  rw [RV.res_eq, e0, e1, e2, e3, e4, e5, e6, e7, e8]
  funext y
  obtain ⟨b, i, j, rfl⟩ : ∃ (b : Fin 4) (i j : Fin 1024), y = ix3 b i j := ⟨y 0, y 1, y 2, eq_ix3 y⟩
  exact RV.ref_out _ _ _ _ _ _ _ _ _ h1 h4 b i j

/-- The value claim. -/
theorem alg_claim : Cert.algebraic_KernelIdeal_ReferenceIdeal := fun m g m' g' hpre hag => by
  have hr : ∀ d : Dev nD, (∀ i, ((M0 m d (Proc.devRef .tc main_arg1) : IVec S4x1024x1024 32) i).toNat < 64)
      ∧ ∀ i, ((M0 m d (Proc.devRef .tc main_arg4) : IVec S4x1024 32) i).toNat < 2048 :=
    fun d => in_range_at _ _ _ _ _ _ _ _ _ (hpre d)
  refine ⟨fun d => OUT (M0 m d) (hr d).1 (hr d).2, ?_, ?_⟩
  · exact (θ_run Cert.KernelIdeal.defs _ _).mono (fun r h c =>
      ⟨(h.1 c (Proc.devRef .tc main_v22) (by decide)).trans (Vend_out m c (hr c).1 (hr c).2), args_kept m r.2 c (h.1 c)⟩)
      (run_main (F := Ideal) m g (ok_of_range m hr))
  · exact (θ_run Cert.ReferenceIdeal.defs _ _).mono (fun r h c =>
      ⟨(h c).1.trans (ref_eq m m' c (hr c).1 (hr c).2 (hag c).1 (hag c).2.1 (hag c).2.2.1 (hag c).2.2.2.1 (hag c).2.2.2.2.1 (hag c).2.2.2.2.2.1
        (hag c).2.2.2.2.2.2.1 (hag c).2.2.2.2.2.2.2.1 (hag c).2.2.2.2.2.2.2.2), (h c).2⟩)
      (Cert.ReferenceIdeal.Value.run m' g')

end Cert.Proof.IT

end
-- ==== Proof.RefRun.lean ====
/-
  The reference's frames: it is a straight line of host operations on a signature that has no semaphore, so its run leaves
  its arguments and the counters as they were.
-/
module

public import proofs.«01_k».proof.Proof.Gen.ReferenceIdeal.Run
public import proofs.«01_k».proof.Proof.Gen.Pre_in_range
public import proofs.«01_k».proof.Defs
public import Idealize.ShloMosaic.Lib.Quiescent
public import Idealize.ShloMosaic.Lib.Claim

@[expose] public section

namespace Cert.Proof

open Idealize.ShloMosaic Idealize.SL.Sem

/-- The reference's run, read at its arguments and at the counters. -/
theorem ref_frame : Cert.quiescent_ReferenceIdeal := fun m g _ =>
  (θ_run _ _ _).mono (fun r h => ⟨fun c => (h c).2, sem_eq_zero_of_no_sems (by decide) r.2⟩)
    (Cert.ReferenceIdeal.Value.run m g)

/-- The same run where the indices are in range. -/
theorem ref_frame_pre : Cert.quiescent_ReferenceIdeal_pre_in_range := fun m g _ =>
  (θ_run _ _ _).mono (fun r h => ⟨fun c => (h c).2, sem_eq_zero_of_no_sems (by decide) r.2⟩)
    (Cert.ReferenceIdeal.Value.run m g)

end Cert.Proof
-- ==== Proof.lean ====
/- The proof of the certificate's claim: the frames of the kernel at both readings, the reference's frames, the idealization,
   which rewrites nothing, and the value claim. -/
module

public import proofs.«01_k».proof.Proof.KOk
public import proofs.«01_k».proof.Proof.IOk
public import proofs.«01_k».proof.Proof.IAlg
public import proofs.«01_k».proof.Proof.RefRun
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range

@[expose] public section

namespace Cert.Proof

/-- The claim. -/
theorem claim : Cert.Claim :=
  ⟨Cert.Kernel.Gen.facts, Cert.KernelIdeal.Gen.facts, Cert.ReferenceIdeal.Gen.facts, Cert.Pre_in_range.Gen.facts,
    KT.frame_claim, IT.frame_claim, ref_frame, ref_frame_pre, trivial, IT.alg_claim⟩

end Cert.Proof
